-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x8192x3584 : Shape := ⟨3, ![6, 8192, 3584]⟩
abbrev S3584 : Shape := ⟨1, ![3584]⟩
abbrev S49152x3584 : Shape := ⟨2, ![49152, 3584]⟩
abbrev S1x3584 : Shape := ⟨2, ![1, 3584]⟩
abbrev S28x49152 : Shape := ⟨2, ![28, 49152]⟩
abbrev S3584x49152 : Shape := ⟨2, ![3584, 49152]⟩
abbrev S384x1x3584 : Shape := ⟨3, ![384, 1, 3584]⟩
abbrev S1x49152 : Shape := ⟨2, ![1, 49152]⟩
abbrev S128x3584 : Shape := ⟨2, ![128, 3584]⟩
abbrev S28x128 : Shape := ⟨2, ![28, 128]⟩
abbrev S3584x128 : Shape := ⟨2, ![3584, 128]⟩
abbrev S1x1x3584 : Shape := ⟨3, ![1, 1, 3584]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S8x128 : Shape := ⟨2, ![8, 128]⟩
abbrev S128x28 : Shape := ⟨2, ![128, 28]⟩

abbrev nBuf : Space → Nat
  | .hbm => 10
  | .vmem => 13
  | .smem => 0
  | _ => 0

abbrev bufTy : (tb : Table) → Fin (tcTables nBuf tb) → BufTy
  | .hbm, ⟨0, _⟩ => ⟨S6x8192x3584, .bf16⟩
  | .hbm, ⟨1, _⟩ => ⟨S3584, .bf16⟩
  | .hbm, ⟨2, _⟩ => ⟨S49152x3584, .bf16⟩
  | .hbm, ⟨3, _⟩ => ⟨S1x3584, .bf16⟩
  | .hbm, ⟨4, _⟩ => ⟨S1x3584, .f32⟩
  | .hbm, ⟨5, _⟩ => ⟨S49152x3584, .fp8e4m3⟩
  | .hbm, ⟨6, _⟩ => ⟨S28x49152, .f32⟩
  | .hbm, ⟨7, _⟩ => ⟨S3584x49152, .fp8e4m3⟩
  | .hbm, ⟨8, _⟩ => ⟨S384x1x3584, .f32⟩
  | .hbm, ⟨9, _⟩ => ⟨S1x49152, .f32⟩
  | .local _ .vmem, ⟨0, _⟩ => ⟨S128x3584, .bf16⟩
  | .local _ .vmem, ⟨1, _⟩ => ⟨S128x3584, .bf16⟩
  | .local _ .vmem, ⟨2, _⟩ => ⟨S1x3584, .f32⟩
  | .local _ .vmem, ⟨3, _⟩ => ⟨S128x3584, .fp8e4m3⟩
  | .local _ .vmem, ⟨4, _⟩ => ⟨S128x3584, .fp8e4m3⟩
  | .local _ .vmem, ⟨5, _⟩ => ⟨S28x128, .f32⟩
  | .local _ .vmem, ⟨6, _⟩ => ⟨S28x128, .f32⟩
  | .local _ .vmem, ⟨7, _⟩ => ⟨S3584x128, .fp8e4m3⟩
  | .local _ .vmem, ⟨8, _⟩ => ⟨S3584x128, .fp8e4m3⟩
  | .local _ .vmem, ⟨9, _⟩ => ⟨S1x1x3584, .f32⟩
  | .local _ .vmem, ⟨10, _⟩ => ⟨S1x1x3584, .f32⟩
  | .local _ .vmem, ⟨11, _⟩ => ⟨S1x128, .f32⟩
  | .local _ .vmem, ⟨12, _⟩ => ⟨S1x128, .f32⟩
  | _, _ => ⟨S6x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![384], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_d" => some ((1 / 3584 : ℝ) : EReal)
  | _ => none
-- ==== ReferenceIdeal.lean ====
abbrev S6x8192x3584 : Shape := ⟨3, ![6, 8192, 3584]⟩
abbrev S3584 : Shape := ⟨1, ![3584]⟩
abbrev S49152x3584 : Shape := ⟨2, ![49152, 3584]⟩
abbrev S_ : Shape := ⟨0, ![]⟩
abbrev S49152 : Shape := ⟨1, ![49152]⟩
abbrev S49152x1 : Shape := ⟨2, ![49152, 1]⟩
abbrev S1x3584 : Shape := ⟨2, ![1, 3584]⟩
abbrev S49152x28x128 : Shape := ⟨3, ![49152, 28, 128]⟩
abbrev S49152x28 : Shape := ⟨2, ![49152, 28]⟩
abbrev S49152x28x1 : Shape := ⟨3, ![49152, 28, 1]⟩
abbrev S3584x49152 : Shape := ⟨2, ![3584, 49152]⟩
abbrev S3584x384x128 : Shape := ⟨3, ![3584, 384, 128]⟩
abbrev S3584x384 : Shape := ⟨2, ![3584, 384]⟩
abbrev S3584x384x1 : Shape := ⟨3, ![3584, 384, 1]⟩
abbrev S28x49152 : Shape := ⟨2, ![28, 49152]⟩
abbrev S384x3584 : Shape := ⟨2, ![384, 3584]⟩
abbrev S384x1x3584 : Shape := ⟨3, ![384, 1, 3584]⟩
abbrev S1x49152 : Shape := ⟨2, ![1, 49152]⟩

abbrev nBuf : Space → Nat
  | .hbm => 192
  | .vmem => 0
  | .smem => 0
  | _ => 0

abbrev hbmTy0_0 (i : Nat) : BufTy := match i % 128 with
  | 0 => ⟨S6x8192x3584, .bf16⟩
  | 1 => ⟨S3584, .bf16⟩
  | 2 => ⟨S49152x3584, .bf16⟩
  | 3 => ⟨S49152x3584, .f32⟩
  | 4 => ⟨S49152x3584, .f32⟩
  | 5 => ⟨S_, .f32⟩
  | 6 => ⟨S49152, .f32⟩
  | 7 => ⟨S_, .f32⟩
  | 8 => ⟨S49152, .f32⟩
  | 9 => ⟨S49152, .f32⟩
  | 10 => ⟨S_, .f32⟩
  | 11 => ⟨S49152, .f32⟩
  | 12 => ⟨S49152, .f32⟩
  | 13 => ⟨S49152, .f32⟩
  | 14 => ⟨S49152x1, .f32⟩
  | 15 => ⟨S49152x3584, .f32⟩
  | 16 => ⟨S49152x3584, .f32⟩
  | 17 => ⟨S3584, .f32⟩
  | 18 => ⟨S1x3584, .f32⟩
  | 19 => ⟨S49152x3584, .f32⟩
  | 20 => ⟨S49152x3584, .f32⟩
  | 21 => ⟨S49152x28x128, .f32⟩
  | 22 => ⟨S49152x28x128, .f32⟩
  | 23 => ⟨S_, .f32⟩
  | 24 => ⟨S49152x28, .f32⟩
  | 25 => ⟨S_, .f32⟩
  | 26 => ⟨S49152x28, .f32⟩
  | 27 => ⟨S49152x28, .f32⟩
  | 28 => ⟨S_, .f32⟩
  | 29 => ⟨S49152x28, .f32⟩
  | 30 => ⟨S49152x28, .i1⟩
  | 31 => ⟨S_, .f32⟩
  | 32 => ⟨S49152x28, .f32⟩
  | 33 => ⟨S49152x28, .i1⟩
  | 34 => ⟨S49152x28, .i1⟩
  | 35 => ⟨S49152x28, .f32⟩
  | 36 => ⟨S_, .f32⟩
  | 37 => ⟨S_, .f32⟩
  | 38 => ⟨S_, .f32⟩
  | 39 => ⟨S49152x28, .f32⟩
  | 40 => ⟨S49152x28, .f32⟩
  | 41 => ⟨S49152x28, .f32⟩
  | 42 => ⟨S_, .f32⟩
  | 43 => ⟨S49152x28, .f32⟩
  | 44 => ⟨S49152x28, .f32⟩
  | 45 => ⟨S_, .f32⟩
  | 46 => ⟨S_, .f32⟩
  | 47 => ⟨S49152x28, .f32⟩
  | 48 => ⟨S49152x28, .f32⟩
  | 49 => ⟨S_, .f32⟩
  | 50 => ⟨S49152x28, .f32⟩
  | 51 => ⟨S49152x28, .i1⟩
  | 52 => ⟨S_, .f32⟩
  | 53 => ⟨S_, .f32⟩
  | 54 => ⟨S49152x28, .f32⟩
  | 55 => ⟨S49152x28, .f32⟩
  | 56 => ⟨S_, .f32⟩
  | 57 => ⟨S49152x28, .f32⟩
  | 58 => ⟨S49152x28, .i1⟩
  | 59 => ⟨S_, .f32⟩
  | 60 => ⟨S49152x28, .f32⟩
  | 61 => ⟨S49152x28, .i1⟩
  | 62 => ⟨S_, .f32⟩
  | 63 => ⟨S49152x28, .f32⟩
  | 64 => ⟨S49152x28, .f32⟩
  | 65 => ⟨S_, .f32⟩
  | 66 => ⟨S_, .f32⟩
  | 67 => ⟨S49152x28, .f32⟩
  | 68 => ⟨S49152x28, .f32⟩
  | 69 => ⟨S_, .f32⟩
  | 70 => ⟨S_, .f32⟩
  | 71 => ⟨S49152x28, .f32⟩
  | 72 => ⟨S49152x28, .f32⟩
  | 73 => ⟨S49152x28, .f32⟩
  | 74 => ⟨S_, .f32⟩
  | 75 => ⟨S49152x28, .f32⟩
  | 76 => ⟨S49152x28, .i1⟩
  | 77 => ⟨S_, .f32⟩
  | 78 => ⟨S49152x28, .f32⟩
  | 79 => ⟨S49152x28, .i1⟩
  | 80 => ⟨S_, .f32⟩
  | 81 => ⟨S49152x28, .f32⟩
  | 82 => ⟨S49152x28, .f32⟩
  | 83 => ⟨S_, .f32⟩
  | 84 => ⟨S_, .f32⟩
  | 85 => ⟨S49152x28, .f32⟩
  | 86 => ⟨S49152x28, .f32⟩
  | 87 => ⟨S_, .f32⟩
  | 88 => ⟨S_, .f32⟩
  | 89 => ⟨S49152x28, .f32⟩
  | 90 => ⟨S49152x28, .f32⟩
  | 91 => ⟨S49152x28x1, .f32⟩
  | 92 => ⟨S49152x28x128, .f32⟩
  | 93 => ⟨S49152x28x128, .f32⟩
  | 94 => ⟨S_, .f32⟩
  | 95 => ⟨S_, .f32⟩
  | 96 => ⟨S_, .f32⟩
  | 97 => ⟨S49152x28x128, .f32⟩
  | 98 => ⟨S49152x28x128, .f32⟩
  | 99 => ⟨S_, .f32⟩
  | 100 => ⟨S49152x28x128, .f32⟩
  | 101 => ⟨S49152x28x128, .f32⟩
  | 102 => ⟨S49152x3584, .f32⟩
  | 103 => ⟨S3584x49152, .f32⟩
  | 104 => ⟨S3584x384x128, .f32⟩
  | 105 => ⟨S3584x384x128, .f32⟩
  | 106 => ⟨S_, .f32⟩
  | 107 => ⟨S3584x384, .f32⟩
  | 108 => ⟨S_, .f32⟩
  | 109 => ⟨S3584x384, .f32⟩
  | 110 => ⟨S3584x384, .f32⟩
  | 111 => ⟨S_, .f32⟩
  | 112 => ⟨S3584x384, .f32⟩
  | 113 => ⟨S3584x384, .i1⟩
  | 114 => ⟨S_, .f32⟩
  | 115 => ⟨S3584x384, .f32⟩
  | 116 => ⟨S3584x384, .i1⟩
  | 117 => ⟨S3584x384, .i1⟩
  | 118 => ⟨S3584x384, .f32⟩
  | 119 => ⟨S_, .f32⟩
  | 120 => ⟨S_, .f32⟩
  | 121 => ⟨S_, .f32⟩
  | 122 => ⟨S3584x384, .f32⟩
  | 123 => ⟨S3584x384, .f32⟩
  | 124 => ⟨S3584x384, .f32⟩
  | 125 => ⟨S_, .f32⟩
  | 126 => ⟨S3584x384, .f32⟩
  | 127 => ⟨S3584x384, .f32⟩
  | _ => ⟨S6x8192x3584, .bf16⟩

abbrev hbmTy0_1 (i : Nat) : BufTy := match i % 128 with
  | 0 => ⟨S_, .f32⟩
  | 1 => ⟨S_, .f32⟩
  | 2 => ⟨S3584x384, .f32⟩
  | 3 => ⟨S3584x384, .f32⟩
  | 4 => ⟨S_, .f32⟩
  | 5 => ⟨S3584x384, .f32⟩
  | 6 => ⟨S3584x384, .i1⟩
  | 7 => ⟨S_, .f32⟩
  | 8 => ⟨S_, .f32⟩
  | 9 => ⟨S3584x384, .f32⟩
  | 10 => ⟨S3584x384, .f32⟩
  | 11 => ⟨S_, .f32⟩
  | 12 => ⟨S3584x384, .f32⟩
  | 13 => ⟨S3584x384, .i1⟩
  | 14 => ⟨S_, .f32⟩
  | 15 => ⟨S3584x384, .f32⟩
  | 16 => ⟨S3584x384, .i1⟩
  | 17 => ⟨S_, .f32⟩
  | 18 => ⟨S3584x384, .f32⟩
  | 19 => ⟨S3584x384, .f32⟩
  | 20 => ⟨S_, .f32⟩
  | 21 => ⟨S_, .f32⟩
  | 22 => ⟨S3584x384, .f32⟩
  | 23 => ⟨S3584x384, .f32⟩
  | 24 => ⟨S_, .f32⟩
  | 25 => ⟨S_, .f32⟩
  | 26 => ⟨S3584x384, .f32⟩
  | 27 => ⟨S3584x384, .f32⟩
  | 28 => ⟨S3584x384, .f32⟩
  | 29 => ⟨S_, .f32⟩
  | 30 => ⟨S3584x384, .f32⟩
  | 31 => ⟨S3584x384, .i1⟩
  | 32 => ⟨S_, .f32⟩
  | 33 => ⟨S3584x384, .f32⟩
  | 34 => ⟨S3584x384, .i1⟩
  | 35 => ⟨S_, .f32⟩
  | 36 => ⟨S3584x384, .f32⟩
  | 37 => ⟨S3584x384, .f32⟩
  | 38 => ⟨S_, .f32⟩
  | 39 => ⟨S_, .f32⟩
  | 40 => ⟨S3584x384, .f32⟩
  | 41 => ⟨S3584x384, .f32⟩
  | 42 => ⟨S_, .f32⟩
  | 43 => ⟨S_, .f32⟩
  | 44 => ⟨S3584x384, .f32⟩
  | 45 => ⟨S3584x384, .f32⟩
  | 46 => ⟨S3584x384x1, .f32⟩
  | 47 => ⟨S3584x384x128, .f32⟩
  | 48 => ⟨S3584x384x128, .f32⟩
  | 49 => ⟨S_, .f32⟩
  | 50 => ⟨S_, .f32⟩
  | 51 => ⟨S_, .f32⟩
  | 52 => ⟨S3584x384x128, .f32⟩
  | 53 => ⟨S3584x384x128, .f32⟩
  | 54 => ⟨S_, .f32⟩
  | 55 => ⟨S3584x384x128, .f32⟩
  | 56 => ⟨S3584x384x128, .f32⟩
  | 57 => ⟨S3584x49152, .f32⟩
  | 58 => ⟨S49152x3584, .fp8e4m3⟩
  | 59 => ⟨S3584x49152, .fp8e4m3⟩
  | 60 => ⟨S28x49152, .f32⟩
  | 61 => ⟨S384x3584, .f32⟩
  | 62 => ⟨S384x1x3584, .f32⟩
  | 63 => ⟨S1x49152, .f32⟩
  | _ => ⟨S6x8192x3584, .bf16⟩

abbrev hbmTy (i : Nat) : BufTy := match i / 128 with
  | 0 => hbmTy0_0 i
  | 1 => hbmTy0_1 i
  | _ => ⟨S6x8192x3584, .bf16⟩

abbrev bufTy : (tb : Table) → Fin (tcTables nBuf tb) → BufTy
  | .hbm, ⟨i, _⟩ => hbmTy i
  | _, _ => ⟨S6x8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_call2_v0 : Ref sig .tc := ⟨.hbm, 66, rfl⟩
abbrev main_call2_v1 : Ref sig .tc := ⟨.hbm, 67, rfl⟩
abbrev main_v44 : Ref sig .tc := ⟨.hbm, 68, rfl⟩
abbrev main_cst_15 : Ref sig .tc := ⟨.hbm, 69, rfl⟩
abbrev main_call3_v0 : Ref sig .tc := ⟨.hbm, 70, rfl⟩
abbrev main_call3_v1 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_cst_17 : Ref sig .tc := ⟨.hbm, 77, rfl⟩
abbrev main_v49 : Ref sig .tc := ⟨.hbm, 78, rfl⟩
abbrev main_v50 : Ref sig .tc := ⟨.hbm, 79, rfl⟩
abbrev main_cst_18 : Ref sig .tc := ⟨.hbm, 80, rfl⟩
abbrev main_v51 : Ref sig .tc := ⟨.hbm, 81, rfl⟩
abbrev main_v52 : Ref sig .tc := ⟨.hbm, 82, rfl⟩
abbrev main_cst_19 : Ref sig .tc := ⟨.hbm, 83, rfl⟩
abbrev main_call4_v0 : Ref sig .tc := ⟨.hbm, 84, rfl⟩
abbrev main_call4_v1 : Ref sig .tc := ⟨.hbm, 85, rfl⟩
abbrev main_v53 : Ref sig .tc := ⟨.hbm, 86, rfl⟩
abbrev main_cst_20 : Ref sig .tc := ⟨.hbm, 87, rfl⟩
abbrev main_call5_v0 : Ref sig .tc := ⟨.hbm, 88, rfl⟩
abbrev main_call5_v1 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_21 : Ref sig .tc := ⟨.hbm, 94, rfl⟩
abbrev main_cst_22 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_23 : Ref sig .tc := ⟨.hbm, 106, rfl⟩
abbrev main_v63 : Ref sig .tc := ⟨.hbm, 107, rfl⟩
abbrev main_cst_24 : Ref sig .tc := ⟨.hbm, 108, rfl⟩
abbrev main_v64 : Ref sig .tc := ⟨.hbm, 109, rfl⟩
abbrev main_v65 : Ref sig .tc := ⟨.hbm, 110, rfl⟩
abbrev main_cst_25 : Ref sig .tc := ⟨.hbm, 111, rfl⟩
abbrev main_v66 : Ref sig .tc := ⟨.hbm, 112, rfl⟩
abbrev main_v67 : Ref sig .tc := ⟨.hbm, 113, rfl⟩
abbrev main_cst_26 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_27 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_28 : Ref sig .tc := ⟨.hbm, 125, rfl⟩
abbrev main_v77 : Ref sig .tc := ⟨.hbm, 126, rfl⟩
abbrev main_v78 : Ref sig .tc := ⟨.hbm, 127, rfl⟩
abbrev main_cst_29 : Ref sig .tc := ⟨.hbm, 128, rfl⟩
abbrev main_call7_v0 : Ref sig .tc := ⟨.hbm, 129, rfl⟩
abbrev main_call7_v1 : Ref sig .tc := ⟨.hbm, 130, rfl⟩
abbrev main_v79 : Ref sig .tc := ⟨.hbm, 131, rfl⟩
abbrev main_cst_30 : Ref sig .tc := ⟨.hbm, 132, rfl⟩
abbrev main_v80 : Ref sig .tc := ⟨.hbm, 133, rfl⟩
abbrev main_v81 : Ref sig .tc := ⟨.hbm, 134, rfl⟩
abbrev main_cst_31 : Ref sig .tc := ⟨.hbm, 135, rfl⟩
abbrev main_call8_v0 : Ref sig .tc := ⟨.hbm, 136, rfl⟩
abbrev main_call8_v1 : Ref sig .tc := ⟨.hbm, 137, rfl⟩
abbrev main_v82 : Ref sig .tc := ⟨.hbm, 138, rfl⟩
abbrev main_cst_32 : Ref sig .tc := ⟨.hbm, 139, rfl⟩
abbrev main_v83 : Ref sig .tc := ⟨.hbm, 140, rfl⟩
abbrev main_v84 : Ref sig .tc := ⟨.hbm, 141, rfl⟩
abbrev main_cst_33 : Ref sig .tc := ⟨.hbm, 142, rfl⟩
abbrev main_v85 : Ref sig .tc := ⟨.hbm, 143, rfl⟩
abbrev main_v86 : Ref sig .tc := ⟨.hbm, 144, rfl⟩
abbrev main_cst_34 : Ref sig .tc := ⟨.hbm, 145, rfl⟩
abbrev main_v87 : Ref sig .tc := ⟨.hbm, 146, rfl⟩
abbrev main_v88 : Ref sig .tc := ⟨.hbm, 147, rfl⟩
abbrev main_cst_35 : Ref sig .tc := ⟨.hbm, 148, rfl⟩
abbrev main_call9_v0 : Ref sig .tc := ⟨.hbm, 149, rfl⟩
abbrev main_call9_v1 : Ref sig .tc := ⟨.hbm, 150, rfl⟩
abbrev main_v89 : Ref sig .tc := ⟨.hbm, 151, rfl⟩
abbrev main_cst_36 : Ref sig .tc := ⟨.hbm, 152, rfl⟩
abbrev main_call10_v0 : Ref sig .tc := ⟨.hbm, 153, rfl⟩
abbrev main_call10_v1 : Ref sig .tc := ⟨.hbm, 154, rfl⟩
abbrev main_v90 : Ref sig .tc := ⟨.hbm, 155, rfl⟩
abbrev main_v91 : Ref sig .tc := ⟨.hbm, 156, rfl⟩
abbrev main_cst_37 : Ref sig .tc := ⟨.hbm, 157, rfl⟩
abbrev main_v92 : Ref sig .tc := ⟨.hbm, 158, rfl⟩
abbrev main_v93 : Ref sig .tc := ⟨.hbm, 159, rfl⟩
abbrev main_cst_38 : Ref sig .tc := ⟨.hbm, 160, rfl⟩
abbrev main_v94 : Ref sig .tc := ⟨.hbm, 161, rfl⟩
abbrev main_v95 : Ref sig .tc := ⟨.hbm, 162, rfl⟩
abbrev main_cst_39 : Ref sig .tc := ⟨.hbm, 163, rfl⟩
abbrev main_v96 : Ref sig .tc := ⟨.hbm, 164, rfl⟩
abbrev main_v97 : Ref sig .tc := ⟨.hbm, 165, rfl⟩
abbrev main_cst_40 : Ref sig .tc := ⟨.hbm, 166, rfl⟩
abbrev main_call11_v0 : Ref sig .tc := ⟨.hbm, 167, rfl⟩
abbrev main_call11_v1 : Ref sig .tc := ⟨.hbm, 168, rfl⟩
abbrev main_v98 : Ref sig .tc := ⟨.hbm, 169, rfl⟩
abbrev main_cst_41 : Ref sig .tc := ⟨.hbm, 170, rfl⟩
abbrev main_call12_v0 : Ref sig .tc := ⟨.hbm, 171, rfl⟩
abbrev main_call12_v1 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_42 : Ref sig .tc := ⟨.hbm, 177, rfl⟩
abbrev main_cst_43 : Ref sig .tc := ⟨.hbm, 178, rfl⟩
abbrev main_call13_v0 : Ref sig .tc := ⟨.hbm, 179, rfl⟩
abbrev main_call13_v1 : Ref sig .tc := ⟨.hbm, 180, rfl⟩
abbrev main_call13_v2 : Ref sig .tc := ⟨.hbm, 181, rfl⟩
abbrev main_call13_v3 : Ref sig .tc := ⟨.hbm, 182, rfl⟩
abbrev main_call13_v4 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩

abbrev nD : Nat := 1
abbrev τ : Topo := Topo.v7x

variable {F : FTy → Type} [FloatOps F]
-- ==== Proof.Vocab.lean ====
module

public import proofs.«01_k».proof.Proof.Gen.KernelIdeal.Frame
public import Idealize.ShloMosaic.Lib.Pipeline.Value

/-! What one grid step of the kernel computes, in one uniform vocabulary: the block's reciprocal root mean square, and for each of
    its 28 column groups the codes and scales by rows and by columns. The definitions repeat the printed operations; that the body's
    stores are these, group by group, is proved at the end by computation. -/

@[expose] public section

set_option maxRecDepth 65536

noncomputable section

namespace Cert.KernelIdeal.Block

open Idealize.ShloMosaic Idealize.SL.Sem
open Cert.KernelIdeal Cert.KernelIdeal.Gen

section Search

variable {F : FTy → Type} [FloatOps F] {S : Shape}

/-- One step of the exponent search: take the bit `b` where the float of the bits with it is at most `v`. -/
def stepBit (v : FVec F S .f32) (b : BitVec 32) (t : IVec S 32) : IVec S 32 :=
  select (cmpf .oge v (bitcastToFloat .f32 (ori t (broadcast S b)))) (ori t (broadcast S b)) t

/-- The eight steps of the search, from the greatest exponent bit to the least. -/
def searchBits (v : FVec F S .f32) : IVec S 32 :=
  stepBit v 8388608#32 (stepBit v 16777216#32 (stepBit v 33554432#32 (stepBit v 67108864#32
    (stepBit v 134217728#32 (stepBit v 268435456#32 (stepBit v 536870912#32 (stepBit v 1073741824#32 (broadcast S 0#32))))))))

/-- The exponent field found. -/
def fieldOf (v : FVec F S .f32) : IVec S 32 := andi (shrsi (searchBits v) (broadcast S 23#32)) (broadcast S 255#32)

/-- The exponent of the scale: zero for the fields of zero and of infinity, the field less 126 elsewhere. -/
def expOf (v : FVec F S .f32) : IVec S 32 :=
  select (ori (cmpi .eq (fieldOf v) (broadcast S 0#32)) (cmpi .eq (fieldOf v) (broadcast S 255#32))) (broadcast S 0#32)
    (subi (fieldOf v) (broadcast S 126#32))

/-- The scale, by its bits. -/
def scaleOf (v : FVec F S .f32) : FVec F S .f32 :=
  bitcastToFloat .f32 (shli (addi (expOf v) (broadcast S 127#32)) (broadcast S 23#32))

/-- The scale's reciprocal, by its bits. -/
def invOf (v : FVec F S .f32) : FVec F S .f32 :=
  bitcastToFloat .f32 (shli (maxsi (subi (broadcast S 127#32) (expOf v)) (broadcast S 0#32)) (broadcast S 23#32))

/-- The values clipped to the range of the codes. -/
def clip (y : FVec F S .f32) : FVec F S .f32 :=
  minimumf (broadcast S (Scalar.ofBits .f32 0x43E00000#32)) (maximumf (broadcast S (Scalar.ofBits .f32 0xC3E00000#32)) y)

end Search

/-- Column group `j` lies inside a 128-row block of `x`. -/
theorem inb_x (j : Fin 28) : ∀ a, (![0, 128 * j.val] : Fin 2 → Nat) a + S128x128.size a ≤ S128x3584.size a :=
  Fin.forall_fin_two.2 ⟨by show 0 + 128 ≤ 128; omega, by show 128 * j.val + 128 ≤ 3584; omega⟩
/-- Column group `j` lies inside the row of weights. -/
theorem inb_g (j : Fin 28) : ∀ a, (![0, 128 * j.val] : Fin 2 → Nat) a + S1x128.size a ≤ S1x3584.size a :=
  Fin.forall_fin_two.2 ⟨by show 0 + 1 ≤ 1; omega, by show 128 * j.val + 128 ≤ 3584; omega⟩
/-- Row group `j` lies inside a 128-column block of the transposed codes. -/
theorem inb_c (j : Fin 28) : ∀ a, (![128 * j.val, 0] : Fin 2 → Nat) a + S128x128.size a ≤ S3584x128.size a :=
  Fin.forall_fin_two.2 ⟨by show 128 * j.val + 128 ≤ 3584; omega, by show 0 + 128 ≤ 128; omega⟩

abbrev xRect (j : Fin 28) : Rect S128x3584 := Rect.unit (s := S128x3584) ![0, 128 * j.val] S128x128.size (inb_x j)
abbrev gRect (j : Fin 28) : Rect S1x3584 := Rect.unit (s := S1x3584) ![0, 128 * j.val] S1x128.size (inb_g j)
abbrev cRect (j : Fin 28) : Rect S3584x128 := Rect.unit (s := S3584x128) ![128 * j.val, 0] S128x128.size (inb_c j)

variable {F : FTy → Type} [FloatOps F] [Named F]

/-- The running sum of squares with group `j` added. -/
def sqStep (x0 : Vec F S128x3584 .bf16) (acc : FVec F S128x128 .f32) (j : Fin 28) : FVec F S128x128 .f32 :=
  addf acc (mulf (extf .f32 (shapeCast S128x128 (View.ld x0 (xRect j)) shapeCasts_S128x128_S128x128) bitsLt_bf16_f32)
    (extf .f32 (shapeCast S128x128 (View.ld x0 (xRect j)) shapeCasts_S128x128_S128x128) bitsLt_bf16_f32))

/-- The column groups in order. -/
abbrev groups : List (Fin 28) := [0, 1, 2, 3, 4, 5, 6, 7, 8, 9, 10, 11, 12, 13, 14, 15, 16, 17, 18, 19, 20, 21, 22, 23, 24, 25, 26, 27]

/-- The sum of squares over all groups, lane by lane. -/
def sqAcc (x0 : Vec F S128x3584 .bf16) : FVec F S128x128 .f32 :=
  groups.foldl (sqStep x0) (broadcast S128x128 (Scalar.ofBits .f32 0x00000000#32))

/-- The rows' reciprocal root mean squares. -/
def rsig (x0 : Vec F S128x3584 .bf16) : FVec F S128x1 .f32 :=
  rsqrt (addf (mulf (shapeCast S128x1 (multiReduction .add [1] S128 (sqAcc x0) 0x00000000#32 reduces_S128x128_S128 (.inl rfl) rfl)
      shapeCasts_S128_S128x1) (broadcast S128x1 (Named.named κ "inv_d" 0x39924925#32)))
    (broadcast S128x1 (Scalar.ofBits .f32 0x3727C5AC#32)))

/-- The normalised values of column group `j`. -/
def yOf (x0 : Vec F S128x3584 .bf16) (x1 : Vec F S1x3584 .f32) (j : Fin 28) : FVec F S128x128 .f32 :=
  mulf (mulf (extf .f32 (shapeCast S128x128 (View.ld x0 (xRect j)) shapeCasts_S128x128_S128x128) bitsLt_bf16_f32)
      (broadcastTo S128x128 (rsig x0) broadcasts_S128x1_S128x128))
    (broadcastTo S128x128 (shapeCast S1x128 (View.ld x1 (gRect j)) shapeCasts_S1x128_S1x128) broadcasts_S1x128_S128x128)

/-- The rows' greatest absolute values over 448, along every row. -/
def rowV (y : FVec F S128x128 .f32) : FVec F S128x128 .f32 :=
  mulf (broadcastTo S128x128 (shapeCast S128x1 (shapeCast S128x1
      (multiReduction .maximumf [1] S128 (absf y) 0xFF800000#32 reduces_S128x128_S128 (.inl rfl) rfl) shapeCasts_S128_S128x1)
      shapeCasts_S128x1_S128x1) broadcasts_S128x1_S128x128)
    (broadcast S128x128 (Scalar.ofBits .f32 0x3B124925#32))

/-- The columns' greatest absolute values over 448, down every column. -/
def colV (y : FVec F S128x128 .f32) : FVec F S8x128 .f32 :=
  mulf (broadcastTo S8x128 (shapeCast S1x128 (shapeCast S1x128
      (multiReduction .maximumf [0] S128 (absf y) 0xFF800000#32 reduces_S128x128_S128_2 (.inl rfl) rfl) shapeCasts_S128_S1x128)
      shapeCasts_S1x128_S1x128) broadcasts_S1x128_S8x128)
    (broadcast S8x128 (Scalar.ofBits .f32 0x3B124925#32))

/-- The codes by rows. -/
def rowCodes (y : FVec F S128x128 .f32) : FVec F S128x128 .fp8e4m3 :=
  truncf .fp8e4m3 (clip (mulf y (invOf (rowV y)))) bitsLt_fp8e4m3_f32

/-- The codes by columns, transposed. -/
def colCodes (y : FVec F S128x128 .f32) : FVec F S128x128 .fp8e4m3 :=
  transpose S128x128 [1, 0] (truncf .fp8e4m3 (clip (mulf y (broadcastTo S128x128
    (extractStridedSlice S1x128 ![0, 0] (invOf (colV y)) slices_S8x128_o0_0_S1x128) broadcasts_S1x128_S128x128))) bitsLt_fp8e4m3_f32)
    transposes_S128x128_p1_0_S128x128

/-- The scales by rows. -/
def rowScale (y : FVec F S128x128 .f32) : FVec F S128x1 .f32 :=
  extractStridedSlice S128x1 ![0, 0] (scaleOf (rowV y)) slices_S128x128_o0_0_S128x1

/-- The scales by columns. -/
def colScale (y : FVec F S128x128 .f32) : FVec F S1x128 .f32 :=
  extractStridedSlice S1x128 ![0, 0] (scaleOf (colV y)) slices_S8x128_o0_0_S1x128

/-- The `k`-th store of the row codes, last first. -/
abbrev last (k : Fin 28) : Fin 28 := ⟨27 - k.val, by omega⟩

variable (x0 : Vec F S128x3584 .bf16) (x1 : Vec F S1x3584 .f32)

/-- The body leaves the row codes of group `j` in the columns of group `j`. -/
theorem out_rowCodes : out0_2 x0 x1 = View.canon (List.ofFn fun k : Fin 28 =>
    (⟨xRect (last k), rowCodes (yOf x0 x1 (last k))⟩ : View.Piece (Elt F) S128x3584 .fp8e4m3)) := rfl

/-- The 28 columns of scales fit side by side. -/
theorem cat_rows : Shape.Concatenates ((List.ofFn fun j : Fin 28 =>
    (⟨S128x1, rowScale (yOf x0 x1 j)⟩ : (s : Shape) × (s.Idx → F .f32))).map (·.1)) S128x28 1 :=
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x28_d1

/-- The 28 rows of scales fit one after another. -/
theorem cat_cols : Shape.Concatenates ((List.ofFn fun j : Fin 28 =>
    (⟨S1x128, colScale (yOf x0 x1 j)⟩ : (s : Shape) × (s.Idx → F .f32))).map (·.1)) S1x3584 1 :=
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x3584_d1

/-- The body leaves the transpose of the 28 columns of row scales. -/
theorem out_rowScale : out0_3 x0 x1 = transpose S28x128 [1, 0] (concatenate S128x28 1 (List.ofFn fun j : Fin 28 =>
    (⟨S128x1, rowScale (yOf x0 x1 j)⟩ : (s : Shape) × (s.Idx → F .f32))) (cat_rows x0 x1)) transposes_S128x28_p1_0_S28x128 :=
  View.canon_unit_zero (Val := Elt F) (e := .f32) (by funext a; fin_cases a <;> rfl) inb_S28x128_S28x128_0_0 _

/-- The body leaves the column codes of group `j` in the rows of group `j`. -/
theorem out_colCodes : out0_4 x0 x1 = View.canon (List.ofFn fun k : Fin 28 =>
    (⟨cRect (last k), colCodes (yOf x0 x1 (last k))⟩ : View.Piece (Elt F) S3584x128 .fp8e4m3)) := rfl

/-- The body leaves the 28 rows of column scales one after another. -/
theorem out_colScale : out0_5 x0 x1 = shapeCast S1x1x3584 (concatenate S1x3584 1 (List.ofFn fun j : Fin 28 =>
    (⟨S1x128, colScale (yOf x0 x1 j)⟩ : (s : Shape) × (s.Idx → F .f32))) (cat_cols x0 x1)) shapeCasts_S1x3584_S1x1x3584 :=
  View.canon_unit_zero (Val := Elt F) (e := .f32) (by funext a; fin_cases a <;> rfl) inb_S1x1x3584_S1x1x3584_0_0_0 _

/-- The body leaves the rows' reciprocal root mean squares, as a row. -/
theorem out_rsig : out0_6 x0 x1 = transpose S1x128 [1, 0] (rsig x0) transposes_S128x1_p1_0_S1x128 :=
  View.canon_unit_zero (Val := Elt F) (e := .f32) (by funext a; fin_cases a <;> rfl) inb_S1x128_S1x128_0_0 _

end Cert.KernelIdeal.Block
-- ==== Proof.Fields.lean ====
module

public import Idealize.ShloMosaic.PureOps.Ideal
public import Idealize.ShloMosaic.PureOps.Ideal.Laws

/-! The float32 patterns this certificate spells, as the extended reals they denote: the constants of the two
    programs, and the 256 patterns with a clear sign and mantissa, in increasing order. -/

@[expose] public section

noncomputable section

namespace Cert.Fields

open Idealize.ShloMosaic

/-- The word with the exponent field `k`, sign and mantissa clear. -/
def word (k : ℕ) : BitVec 32 := BitVec.ofNat 32 (k * 8388608)

/-- The three fields of `word k`. -/
theorem word_fields : ∀ k : Fin 256, (word k).extractLsb' (8 + 23) 1 = 0#1 ∧ ((word k).extractLsb' 23 8).toNat = k.val ∧
    ((word k).extractLsb' 0 23).toNat = 0 := by decide +kernel

/-- What `word k` denotes: zero, a power of two, infinity. -/
theorem ofBits_word (k : Fin 256) : Ideal.ofBits .f32 (word k) =
    if k.val = 255 then ⊤ else if k.val = 0 then 0 else (((2 : ℝ) ^ ((k.val : ℤ) - 127) : ℝ) : EReal) := by
  obtain ⟨h1, h2, h3⟩ := word_fields k
  show Ideal.ieee 8 23 (word k) = _
  unfold Ideal.ieee
  simp only [h1, h2, h3]
  by_cases h255 : k.val = 255
  · simp [h255]
  · by_cases h0 : k.val = 0
    · simp [h0]
    · rw [if_neg (by simpa using h255), if_neg h0, if_neg h255, if_neg h0]
      congr 1
      have e : ((k.val : ℤ) - (2 ^ (8 - 1) - 1) - (23 : ℕ)) = ((k.val : ℤ) - 127) - 23 := by norm_num
      rw [e, zpow_sub₀ (by norm_num : (2 : ℝ) ≠ 0)]
      norm_num
      ring

/-- The float32 nearest 1/448 is a positive real. -/
theorem ofBits_inv448 : ∃ c : ℝ, 0 < c ∧ Ideal.ofBits .f32 0x3B124925#32 = (c : EReal) := by
  refine ⟨9586981 * 2 ^ (-32 : ℤ), by positivity, ?_⟩
  simp [Ideal.ofBits, Ideal.ieee, -EReal.coe_mul]
theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul]; norm_num
theorem ofBits_3584 : Ideal.ofBits .f32 0x45600000#32 = ((3584 : ℝ) : EReal) := by
  simp [Ideal.ofBits, Ideal.ieee, -EReal.coe_mul]; norm_num
theorem ofBits_neg_inf : Ideal.ofBits .f32 0xFF800000#32 = ⊥ := by
  simp [Ideal.ofBits, Ideal.ieee]

end Cert.Fields
-- ==== Proof.Quant.lean ====
module

public import proofs.«01_k».proof.Proof.Fields

/-! One group's exponent, scale and reciprocal scale. The kernel searches the greatest power-of-two pattern at most `v` bit by bit and
    builds the two scales by their bits; the reference takes the floor of `log v / log 2` and powers of two. At every `v ≥ 0` of the
    extended reals the two agree. -/

@[expose] public section

noncomputable section

namespace Cert.Quant

open Idealize.ShloMosaic Cert.Fields

section Kernel

variable {F : FTy → Type} [FloatOps F]

/-- One step of the exponent search: take the bit `b` where the float of the bits with it is at most `v`. -/
def step (v : F .f32) (b t : BitVec 32) : BitVec 32 :=
  Scalar.select (FloatOps.cmpf .oge v (FloatOps.ofBits .f32 (IntOp.ori t b))) (IntOp.ori t b) t

/-- The eight steps of the search, from the greatest exponent bit to the least. -/
def search (v : F .f32) : BitVec 32 :=
  step v 8388608#32 (step v 16777216#32 (step v 33554432#32 (step v 67108864#32
    (step v 134217728#32 (step v 268435456#32 (step v 536870912#32 (step v 1073741824#32 0#32)))))))

/-- The exponent field of a pattern. -/
def field (w : BitVec 32) : BitVec 32 := IntOp.andi (IntOp.shrsi .vector w 23#32) 255#32

/-- The exponent of the scale: zero for the fields of zero and of infinity, the field less 126 elsewhere. -/
def expo (w : BitVec 32) : BitVec 32 :=
  Scalar.select (IntOp.ori (IntOp.cmpi .eq (field w) 0#32) (IntOp.cmpi .eq (field w) 255#32)) 0#32 (IntOp.subi (field w) 126#32)

/-- The scale's pattern. -/
def scaleWord (w : BitVec 32) : BitVec 32 := IntOp.shli .vector (IntOp.addi (expo w) 127#32) 23#32

/-- The reciprocal scale's pattern. -/
def invWord (w : BitVec 32) : BitVec 32 := IntOp.shli .vector (IntOp.maxsi (IntOp.subi 127#32 (expo w)) 0#32) 23#32

/-- The kernel's scale for `v`. -/
def scale (v : F .f32) : F .f32 := FloatOps.ofBits .f32 (scaleWord (search v))

/-- The kernel's reciprocal scale for `v`. -/
def inv (v : F .f32) : F .f32 := FloatOps.ofBits .f32 (invWord (search v))

/-- The reference's exponent of `v`, where `a` is the group's greatest absolute value. -/
def refExp (a v : F .f32) : F .f32 :=
  Scalar.select (FloatOps.cmpf .oeq a (FloatOps.ofBits .f32 0x00000000#32)) (FloatOps.ofBits .f32 0x00000000#32)
    (Scalar.select (IntOp.andi (FloatOps.cmpf .oge v (FloatOps.ofBits .f32 0x00800000#32))
        (FloatOps.cmpf .olt v (FloatOps.ofBits .f32 0x7F800000#32)))
      (FloatOps.addf (FloatOps.hostUnary .floor (FloatOps.hostDivf (FloatOps.hostUnary .log v)
        (FloatOps.hostUnary .log (FloatOps.ofBits .f32 0x40000000#32)))) (FloatOps.ofBits .f32 0x3F800000#32))
      (FloatOps.ofBits .f32 0x00000000#32))

/-- The reference's power of two. -/
def refPow (e : F .f32) : F .f32 :=
  Scalar.select (FloatOps.cmpf .ogt e (FloatOps.ofBits .f32 0x42FE0000#32)) (FloatOps.ofBits .f32 0x7F800000#32)
    (Scalar.select (FloatOps.cmpf .olt e (FloatOps.ofBits .f32 0xC2FC0000#32)) (FloatOps.ofBits .f32 0x00000000#32)
      (FloatOps.hostPowf (FloatOps.ofBits .f32 0x40000000#32) e))

end Kernel

/-- The threshold of the exponent field `k`. -/
def T (k : ℕ) : EReal := Ideal.ofBits .f32 (word k)

/-- The threshold at zero. -/
theorem T_zero : T 0 = 0 := by
  have := ofBits_word 0
  simpa [T] using this

/-- The threshold at a normal field. -/
theorem T_mid {k : ℕ} (h0 : 0 < k) (h : k < 255) : T k = (((2 : ℝ) ^ ((k : ℤ) - 127) : ℝ) : EReal) := by
  have := ofBits_word ⟨k, by omega⟩
  rw [if_neg (by show ¬ k = 255; omega), if_neg (by show ¬ k = 0; omega)] at this
  exact this

/-- The threshold at the field of infinity. -/
theorem T_top : T 255 = ⊤ := by
  have := ofBits_word ⟨255, by omega⟩
  rw [if_pos rfl] at this
  exact this

/-- The thresholds increase. -/
theorem T_mono {a b : ℕ} (hab : a ≤ b) (hb : b < 256) : T a ≤ T b := by
  rcases Nat.lt_or_ge b 255 with h | h
  · rcases Nat.eq_zero_or_pos a with ha | ha
    · subst ha
      rw [T_zero]
      rcases Nat.eq_zero_or_pos b with hb0 | hb0
      · subst hb0; rw [T_zero]
      · rw [T_mid hb0 h]; exact_mod_cast le_of_lt (zpow_pos (by norm_num : (0 : ℝ) < 2) _)
    · rw [T_mid ha (by omega), T_mid (by omega) h]
      exact EReal.coe_le_coe_iff.2 (zpow_le_zpow_right₀ (by norm_num : (1 : ℝ) ≤ 2) (by omega))
  · obtain rfl : b = 255 := by omega
    rw [T_top]; exact le_top

/-- Setting bit `p` of a field that is a multiple of `2^(p+1)` adds `2^p`, and stays in range. -/
theorem or_word : ∀ (p : Fin 8) (m : Fin 256), m.val % 2 ^ (p.val + 1) = 0 →
    IntOp.ori (word m) (BitVec.ofNat 32 (2 ^ (p.val + 23))) = word (m.val + 2 ^ p.val) ∧ m.val + 2 ^ p.val < 256 ∧
      (m.val + 2 ^ p.val) % 2 ^ p.val = 0 ∧ m.val % 2 ^ p.val = 0 := by
  decide +kernel

/-- What the search has found when the bits below `p` are still to be tried. -/
def Found (v : EReal) (p : ℕ) (w : BitVec 32) : Prop :=
  ∃ m : Fin 256, w = word m ∧ m.val % 2 ^ p = 0 ∧ T m ≤ v ∧ ∀ k, m.val + 2 ^ p ≤ k → k < 256 → v < T k

/-- A comparison `v ≥ y` of extended reals selects. -/
theorem select_oge {α : Type} (v y : EReal) (a b : α) :
    Scalar.select (FloatOps.cmpf (F := Ideal) (φ := .f32) .oge v y) a b = if y ≤ v then a else b := by
  show (if BitVec.ofBool (decide (y ≤ v)) = 1 then a else b) = _
  by_cases h : y ≤ v <;> simp [h]
theorem select_olt {α : Type} (v y : EReal) (a b : α) :
    Scalar.select (FloatOps.cmpf (F := Ideal) (φ := .f32) .olt v y) a b = if v < y then a else b := by
  show (if BitVec.ofBool (decide (v < y)) = 1 then a else b) = _
  by_cases h : v < y <;> simp [h]
theorem select_ogt {α : Type} (v y : EReal) (a b : α) :
    Scalar.select (FloatOps.cmpf (F := Ideal) (φ := .f32) .ogt v y) a b = if y < v then a else b := by
  show (if BitVec.ofBool (decide (y < v)) = 1 then a else b) = _
  by_cases h : y < v <;> simp [h]
theorem select_oeq {α : Type} (v y : EReal) (a b : α) :
    Scalar.select (FloatOps.cmpf (F := Ideal) (φ := .f32) .oeq v y) a b = if v = y then a else b := by
  show (if BitVec.ofBool (decide (v = y)) = 1 then a else b) = _
  by_cases h : v = y <;> simp [h]
theorem select_range {α : Type} (v x y : EReal) (a b : α) :
    Scalar.select (IntOp.andi (FloatOps.cmpf (F := Ideal) (φ := .f32) .oge v x) (FloatOps.cmpf (F := Ideal) (φ := .f32) .olt v y)) a b =
      if x ≤ v ∧ v < y then a else b := by
  show (if BitVec.ofBool (decide (x ≤ v)) &&& BitVec.ofBool (decide (v < y)) = 1 then a else b) = _
  by_cases h : x ≤ v <;> by_cases h' : v < y <;> simp [h, h']

/-- One step of the search settles one bit. -/
theorem Found.step {v : EReal} {p : ℕ} {w b : BitVec 32} (hp : p < 8) (hb : b = BitVec.ofNat 32 (2 ^ (p + 23)))
    (h : Found v (p + 1) w) : Found v p (step (F := Ideal) v b w) := by
  obtain ⟨m, rfl, hm, hle, hlt⟩ := h
  obtain ⟨ho, hr, hd, hd'⟩ := or_word ⟨p, hp⟩ m hm
  subst hb
  rw [Quant.step, select_oge, ho, Ideal.ofBits_def]
  by_cases hv : Ideal.ofBits .f32 (word (m.val + 2 ^ p)) ≤ v
  · rw [if_pos hv]
    refine ⟨⟨m.val + 2 ^ p, hr⟩, rfl, hd, hv, fun k hk hk' => hlt k ?_ hk'⟩
    have : 2 ^ (p + 1) = 2 ^ p + 2 ^ p := by ring
    show m.val + 2 ^ (p + 1) ≤ k
    have hk2 : m.val + 2 ^ p + 2 ^ p ≤ k := hk
    omega
  · rw [if_neg hv]
    exact ⟨m, rfl, hd', hle, fun k hk hk' => lt_of_lt_of_le (not_le.1 hv) (T_mono hk hk')⟩

/-- The search finds the greatest threshold at most `v`. -/
theorem search_found (v : EReal) (h0 : 0 ≤ v) :
    ∃ m : Fin 256, search (F := Ideal) v = word m ∧ T m ≤ v ∧ ∀ k, m.val < k → k < 256 → v < T k := by
  have hs : Found v 8 0#32 := ⟨0, rfl, rfl, by show T 0 ≤ v; rw [T_zero]; exact h0, fun k hk hk' => by
    have : 0 + 2 ^ 8 ≤ k := hk
    omega⟩
  have := ((((((((hs.step (p := 7) (by omega) rfl : Found v 7 (step (F := Ideal) v 1073741824#32 0#32)).step (p := 6) (b := 536870912#32) (by omega) rfl).step (p := 5) (b := 268435456#32) (by omega) rfl).step (p := 4)
    (b := 134217728#32) (by omega) rfl).step (p := 3) (b := 67108864#32) (by omega) rfl).step (p := 2) (b := 33554432#32) (by omega) rfl).step (p := 1) (b := 16777216#32)
    (by omega) rfl).step (p := 0) (b := 8388608#32) (by omega) rfl)
  obtain ⟨m, hm, _, hle, hlt⟩ := this
  exact ⟨m, hm, hle, fun k hk hk' => hlt k (by simpa using hk) hk'⟩

/-- The scale's pattern for the field `m`. -/
theorem scaleWord_word : ∀ m : Fin 256, scaleWord (word m) = word (if m.val = 0 ∨ m.val = 255 then 127 else m.val + 1) := by
  decide +kernel

/-- The reciprocal scale's pattern for the field `m`. -/
theorem invWord_word : ∀ m : Fin 256, invWord (word m) = word (if m.val = 0 ∨ m.val = 255 then 127 else 253 - m.val) := by
  decide +kernel

/-- The reference's power of two at an integer is a threshold. -/
theorem refPow_int (e : ℤ) (k : ℕ) (hk : k < 256) (h : (k : ℤ) = max 0 (min 255 (e + 127))) :
    refPow (F := Ideal) (((e : ℝ) : EReal) : Ideal .f32) = T k := by
  have hinf : Ideal.ofBits .f32 0x7F800000#32 = ⊤ := T_top
  rw [refPow, select_ogt, select_olt]
  simp only [Ideal.ofBits_def, Ideal.hostPowf_def, ofBits_127, ofBits_neg126, ofBits_two, ofBits_zero, hinf, EReal.coe_lt_coe_iff]
  by_cases h1 : (127 : ℝ) < e
  · rw [if_pos h1]
    have : 127 < e := by exact_mod_cast h1
    obtain rfl : k = 255 := by omega
    exact T_top.symm
  · rw [if_neg h1]
    have h1' : e ≤ 127 := by exact_mod_cast not_lt.1 h1
    by_cases h2 : (e : ℝ) < -126
    · rw [if_pos h2]
      have : e < -126 := by exact_mod_cast h2
      obtain rfl : k = 0 := by omega
      exact T_zero.symm
    · rw [if_neg h2]
      have h2' : -126 ≤ e := by exact_mod_cast not_lt.1 h2
      rw [T_mid (by omega) (by omega)]
      show ((Real.rpow 2 (e : ℝ) : ℝ) : EReal) = _
      congr 1
      rw [show (k : ℤ) - 127 = e by omega]
      exact Real.rpow_intCast 2 e

/-- A real between consecutive powers of two has that floor of its logarithm. -/
theorem floor_log {r : ℝ} {n : ℤ} (h1 : (2 : ℝ) ^ n ≤ r) : n ≤ ⌊Real.log r / Real.log 2⌋ := by
  have hr : 0 < r := lt_of_lt_of_le (zpow_pos (by norm_num) _) h1
  rw [Int.le_floor, le_div_iff₀ (Real.log_pos (by norm_num)), ← Real.log_zpow]
  exact Real.log_le_log (zpow_pos (by norm_num) _) h1
theorem floor_log_lt {r : ℝ} {n : ℤ} (h0 : 0 < r) (h1 : r < (2 : ℝ) ^ n) : ⌊Real.log r / Real.log 2⌋ < n := by
  rw [Int.floor_lt, div_lt_iff₀ (Real.log_pos (by norm_num)), ← Real.log_zpow]
  exact Real.log_lt_log h0 h1

/-- The reference's exponent of a normal real. -/
theorem refExp_real {a : EReal} {r : ℝ} (ha : a ≠ 0) (h1 : (2 : ℝ) ^ (-126 : ℤ) ≤ r) :
    refExp (F := Ideal) a (r : EReal) = (((⌊Real.log r / Real.log 2⌋ + 1 : ℤ) : ℝ) : EReal) := by
  have hmin : Ideal.ofBits .f32 0x00800000#32 = (((2 : ℝ) ^ (-126 : ℤ) : ℝ) : EReal) := T_mid (k := 1) (by omega) (by omega)
  have hinf : Ideal.ofBits .f32 0x7F800000#32 = ⊤ := T_top
  have hr : 0 < r := lt_of_lt_of_le (zpow_pos (by norm_num) _) h1
  rw [refExp, select_oeq, select_range]
  simp only [Ideal.ofBits_def, ofBits_zero, hmin, hinf, ofBits_two, ofBits_one, Ideal.addf_def, Ideal.hostUnary_floor_def, Ideal.hostDivf_def,
    Ideal.hostUnary_log_def]
  rw [if_neg ha, if_pos ⟨by exact_mod_cast h1, EReal.coe_lt_top r⟩]
  have l1 : Ideal.log (r : EReal) = (Real.log r : EReal) := by
    show (if r ≤ 0 then ⊥ else (Real.log r : EReal)) = _
    rw [if_neg (not_le.2 hr)]
  have l2 : Ideal.log ((2 : ℝ) : EReal) = (Real.log 2 : EReal) := by
    show (if (2 : ℝ) ≤ 0 then ⊥ else (Real.log 2 : EReal)) = _
    rw [if_neg (by norm_num)]
  rw [l1, l2, Ideal.div_coe (Real.log_pos (by norm_num : (1 : ℝ) < 2)).ne', ← EReal.coe_mul, mul_one_div]
  show (((⌊Real.log r / Real.log 2⌋ : ℤ) : ℝ) : EReal) + ((1 : ℝ) : EReal) = _
  rw [← EReal.coe_add]
  push_cast
  rfl

/-- The reference's exponent where `v` is no normal number. -/
theorem refExp_special {a v : EReal} (h : ¬ (T 1 ≤ v ∧ v < ⊤)) : refExp (F := Ideal) a v = (((0 : ℤ) : ℝ) : EReal) := by
  have hmin : Ideal.ofBits .f32 0x00800000#32 = T 1 := rfl
  have hinf : Ideal.ofBits .f32 0x7F800000#32 = ⊤ := T_top
  rw [refExp, select_oeq, select_range]
  simp only [Ideal.ofBits_def, ofBits_zero, hmin, hinf]
  rw [if_neg h]
  simp

/-- The kernel's scale and reciprocal scale of a group are the reference's powers of two, at every greatest absolute value `a ≥ 0`. -/
theorem scale_inv_eq (a v : EReal) (h0 : 0 ≤ v) (hav : a = 0 → v = 0) :
    scale (F := Ideal) v = refPow (F := Ideal) (refExp (F := Ideal) a v) ∧
      inv (F := Ideal) v = refPow (F := Ideal) (FloatOps.hostNegf (F := Ideal) (φ := .f32) (refExp (F := Ideal) a v)) := by
  obtain ⟨m, hm, hle, hlt⟩ := search_found v h0
  have hs : scale (F := Ideal) v = T (if m.val = 0 ∨ m.val = 255 then 127 else m.val + 1) := by
    rw [scale, hm, scaleWord_word, T]; rfl
  have hi : inv (F := Ideal) v = T (if m.val = 0 ∨ m.val = 255 then 127 else 253 - m.val) := by
    rw [inv, hm, invWord_word, T]; rfl
  have hmlt : m.val < 256 := m.isLt
  have neg (e : ℤ) : FloatOps.hostNegf (F := Ideal) (φ := .f32) (((e : ℝ) : EReal)) = ((((-e : ℤ) : ℝ)) : EReal) := by
    show -((e : ℝ) : EReal) = _
    push_cast
    rfl
  rw [hs, hi]
  by_cases hsp : m.val = 0 ∨ m.val = 255
  · rw [if_pos hsp, if_pos hsp, refExp_special (a := a) (v := v), neg]
    · exact ⟨(refPow_int 0 127 (by omega) (by omega)).symm, (refPow_int (-0) 127 (by omega) (by omega)).symm⟩
    · rintro ⟨hv1, hv2⟩
      rcases hsp with h | h
      · exact absurd hv1 (not_le.2 (hlt 1 (by omega) (by omega)))
      · rw [h, T_top] at hle
        exact absurd hv2 (not_lt.2 hle)
  · rw [if_neg hsp, if_neg hsp]
    rw [T_mid (by omega) (by omega)] at hle
    have hltop : v < ⊤ := T_top ▸ hlt 255 (by omega) (by omega)
    obtain ⟨r, rfl⟩ : ∃ r : ℝ, v = (r : EReal) :=
      ⟨v.toReal, (EReal.coe_toReal hltop.ne (ne_of_gt (lt_of_lt_of_le (EReal.bot_lt_coe _) hle))).symm⟩
    have hle' : (2 : ℝ) ^ ((m.val : ℤ) - 127) ≤ r := by exact_mod_cast hle
    have hr : 0 < r := lt_of_lt_of_le (zpow_pos (by norm_num) _) hle'
    have ha : a ≠ 0 := fun h => by
      have := hav h
      exact hr.ne' (by exact_mod_cast this)
    rw [refExp_real ha (le_trans (zpow_le_zpow_right₀ (by norm_num) (by omega)) hle'), neg]
    have f1 := floor_log hle'
    rcases Nat.lt_or_ge m.val 254 with h | h
    · have f2 := floor_log_lt (n := (m.val : ℤ) - 126) hr (by
        have := hlt (m.val + 1) (by omega) (by omega)
        rw [T_mid (by omega) (by omega)] at this
        have h3 : r < (2 : ℝ) ^ (((m.val + 1 : ℕ) : ℤ) - 127) := by exact_mod_cast this
        rwa [show ((m.val + 1 : ℕ) : ℤ) - 127 = (m.val : ℤ) - 126 by push_cast; ring] at h3)
      exact ⟨(refPow_int _ _ (by omega) (by omega)).symm, (refPow_int _ _ (by omega) (by omega)).symm⟩
    · exact ⟨(refPow_int _ _ (by omega) (by omega)).symm, (refPow_int _ _ (by omega) (by omega)).symm⟩

end Cert.Quant
-- ==== Proof.Spec.lean ====
module

public import proofs.«01_k».proof.Proof.Quant
public import Idealize.ShloMosaic.Lib.ValueIdxCore

/-! The mathematics of the two programs over the extended reals: the normalised values of the matrix, and the codes and the
    scale of a group of 128 of them. -/

@[expose] public section

noncomputable section

open scoped BigOperators

namespace Cert.Spec

open Idealize.ShloMosaic

/-- The greatest absolute value of a group. -/
def amax (f : Fin 128 → EReal) : EReal :=
  (Finset.univ : Finset (Fin 128)).fold max (Ideal.ofBits .f32 0xFF800000#32) fun k => max (f k) (-(f k))

/-- A group's greatest absolute value over 448. -/
def over448 (a : EReal) : EReal := a * Ideal.ofBits .f32 0x3B124925#32

/-- A group's scale. -/
def scaleVal (a : EReal) : EReal := Quant.refPow (F := Ideal) (Quant.refExp (F := Ideal) a (over448 a))

/-- A value's code in a group with greatest absolute value `a`. -/
def codeVal (y a : EReal) : EReal :=
  min (Ideal.ofBits .f32 0x43E00000#32) (max (Ideal.ofBits .f32 0xC3E00000#32)
    (y * Quant.refPow (F := Ideal) (FloatOps.hostNegf (F := Ideal) (φ := .f32) (Quant.refExp (F := Ideal) a (over448 a)))))

/-- A greatest absolute value is at least zero. -/
theorem amax_nonneg (f : Fin 128 → EReal) : 0 ≤ amax f := by
  unfold amax
  rw [Finset.le_fold_max]
  refine Or.inr ⟨0, Finset.mem_univ _, ?_⟩
  rcases le_total 0 (f 0) with h | h
  · exact le_max_of_le_left h
  · exact le_max_of_le_right (by simpa using EReal.neg_le_neg_iff.2 h)

/-- The kernel's scale of a group is the reference's. -/
theorem scale_eq {a : EReal} (h : 0 ≤ a) : Quant.scale (F := Ideal) (over448 a) = scaleVal a ∧
    Quant.inv (F := Ideal) (over448 a) = Quant.refPow (F := Ideal) (FloatOps.hostNegf (F := Ideal) (φ := .f32) (Quant.refExp (F := Ideal) a (over448 a))) := by
  obtain ⟨c, hc, e⟩ := Fields.ofBits_inv448
  refine Quant.scale_inv_eq a (over448 a) ?_ ?_
  · unfold over448; rw [e]; exact mul_nonneg h (by exact_mod_cast hc.le)
  · rintro rfl; unfold over448; rw [zero_mul]

/-- Column `l` of column group `j`. -/
abbrev col (j : Fin 28) (l : Fin 128) : Fin 3584 := ⟨128 * j.val + l.val, by omega⟩

/-- Row `r` of row group `t`. -/
abbrev row (t : Fin 384) (r : Fin 128) : Fin 49152 := ⟨128 * t.val + r.val, by omega⟩

/-- A row's reciprocal root mean square. -/
def sigOf (x : Fin 3584 → EReal) : EReal :=
  Ideal.rsqrt ((∑ k : Fin 3584, x k * x k) * ((1 / 3584 : ℝ) : EReal) + Ideal.ofBits .f32 0x3727C5AC#32)

/-- The normalised, weighted value at row `R` and column `C`. -/
def norm (X : Fin 49152 → Fin 3584 → EReal) (G : Fin 3584 → EReal) (R : Fin 49152) (C : Fin 3584) : EReal :=
  X R C * sigOf (X R) * G C

end Cert.Spec
-- ==== Proof.BlockIdeal.lean ====
module

public import proofs.«01_k».proof.Proof.Vocab
public import proofs.«01_k».proof.Proof.Spec
public import Idealize.ShloMosaic.Lib.ValueIdxCore
public import Idealize.ShloMosaic.PureOps.Ideal.Laws

/-! What one grid step computes, read at an index over the extended reals: the normalised values, and the codes and scales of a
    group in terms of the group's greatest absolute value. -/

@[expose] public section

noncomputable section

open scoped BigOperators

namespace Cert.KernelIdeal.Block

open Idealize.ShloMosaic Idealize.SL.Sem Idealize.ShloMosaic.ValueIdx
open Cert.KernelIdeal Cert.KernelIdeal.Gen Cert.Spec

variable (x0 : Vec Ideal S128x3584 .bf16) (x1 : Vec Ideal S1x3584 .f32)

/-- A load of group `j` of the block. -/
theorem ld_x (j : Fin 28) (r l : Fin 128) :
    shapeCast S128x128 (View.ld x0 (xRect j)) shapeCasts_S128x128_S128x128 (ix2 r l) = x0 (ix2 r (col j l)) := by
  refine (congrFun (shapeCast_self (s := S128x128) (View.ld x0 (xRect j)) _) (ix2 r l)).trans (congrArg x0 (funext fun a => Fin.ext ?_))
  match a with
  | ⟨0, _⟩ => show 0 + 1 * r.val = r.val; omega
  | ⟨1, _⟩ => show 128 * j.val + 1 * l.val = 128 * j.val + l.val; omega

/-- A load of group `j` of the weights. -/
theorem ld_g (j : Fin 28) (l : Fin 128) :
    shapeCast S1x128 (View.ld x1 (gRect j)) shapeCasts_S1x128_S1x128 (ix2 0 l) = x1 (ix2 0 (col j l)) := by
  refine (congrFun (shapeCast_self (s := S1x128) (View.ld x1 (gRect j)) _) (ix2 0 l)).trans (congrArg x1 (funext fun a => Fin.ext ?_))
  match a with
  | ⟨0, _⟩ => rfl
  | ⟨1, _⟩ => show 128 * j.val + 1 * l.val = 128 * j.val + l.val; omega

/-- A running sum of squares, lane by lane. -/
theorem foldl_sq (L : List (Fin 28)) (z : FVec Ideal S128x128 .f32) (r l : Fin 128) :
    L.foldl (sqStep x0) z (ix2 r l) = z (ix2 r l) + (L.map fun j => x0 (ix2 r (col j l)) * x0 (ix2 r (col j l))).sum := by
  induction L generalizing z with
  | nil => simp
  | cons j L ih =>
    rw [List.foldl_cons, ih, List.map_cons, List.sum_cons, ← add_assoc]
    congr 1
    show z (ix2 r l) + shapeCast S128x128 (View.ld x0 (xRect j)) shapeCasts_S128x128_S128x128 (ix2 r l) *
      shapeCast S128x128 (View.ld x0 (xRect j)) shapeCasts_S128x128_S128x128 (ix2 r l) = _
    rw [ld_x]

/-- The listed groups are all of them. -/
theorem groups_eq : groups = List.finRange 28 := by decide

/-- A sum over groups and lanes is the sum over columns. -/
theorem sum_cols (f : Fin 3584 → EReal) : ∑ l : Fin 128, ∑ j : Fin 28, f (col j l) = ∑ k : Fin 3584, f k := by
  rw [Finset.sum_comm, ← Fintype.sum_prod_type' (fun (j : Fin 28) (l : Fin 128) => f (col j l))]
  refine (Equiv.sum_comp (finProdFinEquiv (m := 28) (n := 128)) fun k : Fin (28 * 128) => f k).symm.trans ?_ |>.symm
  refine Finset.sum_congr rfl fun p _ => congrArg f (Fin.ext ?_)
  show p.2.val + 128 * p.1.val = 128 * p.1.val + p.2.val
  omega

/-- A row's sum of squares. -/
theorem sumsq (r : Fin 128) : multiReduction .add [1] S128 (sqAcc x0) 0x00000000#32 reduces_S128x128_S128 (.inl rfl) rfl (ix1 r) =
    ∑ k : Fin 3584, x0 (ix2 r k) * x0 (ix2 r k) := by
  refine (Ideal.multiReduction_add_single (sqAcc x0) 0x00000000#32 reduces_S128x128_S128 (.inl rfl) rfl (ix1 r)).trans ?_
  rw [← sum_cols fun k => x0 (ix2 r k) * x0 (ix2 r k)]
  refine Finset.sum_congr rfl fun (l : Fin 128) _ => ?_
  have e : reduces_S128x128_S128.lift (ix1 r) l = ix2 r l := by
    funext a; match a with | ⟨0, _⟩ => rfl | ⟨1, _⟩ => rfl
  rw [e, sqAcc, foldl_sq, groups_eq, Fin.sum_univ_def]
  show Ideal.ofBits .f32 0x00000000#32 + _ = _
  rw [Fields.ofBits_zero, zero_add]

/-- A row's reciprocal root mean square. -/
theorem rsig_apply (r : Fin 128) : rsig x0 (ix2 r 0) = sigOf fun k => x0 (ix2 r k) := by
  have h : shapeCast S128x1 (multiReduction .add [1] S128 (sqAcc x0) 0x00000000#32 reduces_S128x128_S128 (.inl rfl) rfl)
      shapeCasts_S128_S128x1 (ix2 r 0) = ∑ k : Fin 3584, x0 (ix2 r k) * x0 (ix2 r k) := by
    rw [shapeCast_apply _ shapeCasts_S128_S128x1 (ix2 r 0) (ix1 r)
      (by rw [Shape.rowMajor_val_one, Shape.rowMajor_val_two]; show r.val = r.val * 1 + 0; omega), sumsq]
  show Ideal.rsqrt (shapeCast S128x1 (multiReduction .add [1] S128 (sqAcc x0) 0x00000000#32 reduces_S128x128_S128 (.inl rfl) rfl)
      shapeCasts_S128_S128x1 (ix2 r 0) * Named.named (F := Ideal) κ "inv_d" (φ := .f32) 0x39924925#32 + Ideal.ofBits .f32 0x3727C5AC#32) = _
  rw [h, show Named.named (F := Ideal) κ "inv_d" (φ := .f32) 0x39924925#32 = ((1 / 3584 : ℝ) : EReal) from
    IdealRules.named_const.ideal_named_scalar _ _ _ _ rfl]
  rfl

/-- The normalised value at row `r`, lane `l` of group `j`. -/
theorem yOf_apply (j : Fin 28) (r l : Fin 128) :
    yOf x0 x1 j (ix2 r l) = x0 (ix2 r (col j l)) * rsig x0 (ix2 r 0) * x1 (ix2 0 (col j l)) := by
  have h1 : broadcastTo S128x128 (rsig x0) broadcasts_S128x1_S128x128 (ix2 r l) = rsig x0 (ix2 r 0) :=
    broadcastTo_apply _ broadcasts_S128x1_S128x128 (ix2 r l) (ix2 r 0) fun a => match a with | ⟨0, _⟩ => rfl | ⟨1, _⟩ => rfl
  have h2 : broadcastTo S128x128 (shapeCast S1x128 (View.ld x1 (gRect j)) shapeCasts_S1x128_S1x128) broadcasts_S1x128_S128x128 (ix2 r l) =
      x1 (ix2 0 (col j l)) :=
    (broadcastTo_apply _ broadcasts_S1x128_S128x128 (ix2 r l) (ix2 0 l) fun a => match a with | ⟨0, _⟩ => rfl | ⟨1, _⟩ => rfl).trans
      (ld_g x1 j l)
  show shapeCast S128x128 (View.ld x0 (xRect j)) shapeCasts_S128x128_S128x128 (ix2 r l) *
    broadcastTo S128x128 (rsig x0) broadcasts_S128x1_S128x128 (ix2 r l) *
    broadcastTo S128x128 (shapeCast S1x128 (View.ld x1 (gRect j)) shapeCasts_S1x128_S1x128) broadcasts_S1x128_S128x128 (ix2 r l) = _
  rw [ld_x, h1, h2]

section Groups

variable (y : FVec Ideal S128x128 .f32)

/-- A row's greatest absolute value over 448, on every lane. -/
theorem rowV_apply (r l : Fin 128) : rowV y (ix2 r l) = over448 (amax fun k => y (ix2 r k)) := by
  have h : broadcastTo S128x128 (shapeCast S128x1 (shapeCast S128x1
      (multiReduction .maximumf [1] S128 (absf y) 0xFF800000#32 reduces_S128x128_S128 (.inl rfl) rfl) shapeCasts_S128_S128x1)
      shapeCasts_S128x1_S128x1) broadcasts_S128x1_S128x128 (ix2 r l) = amax fun k => y (ix2 r k) := by
    rw [broadcastTo_apply _ broadcasts_S128x1_S128x128 (ix2 r l) (ix2 r 0) fun a => match a with | ⟨0, _⟩ => rfl | ⟨1, _⟩ => rfl,
      shapeCast_self, shapeCast_apply _ shapeCasts_S128_S128x1 (ix2 r 0) (ix1 r)
      (by rw [Shape.rowMajor_val_one, Shape.rowMajor_val_two]; show r.val = r.val * 1 + 0; omega)]
    refine (Ideal.multiReduction_maximumf_single (absf y) 0xFF800000#32 reduces_S128x128_S128 (.inl rfl) rfl (ix1 r)).trans ?_
    refine Finset.fold_congr fun k _ => ?_
    have e : reduces_S128x128_S128.lift (ix1 r) k = ix2 r k := by
      funext a; match a with | ⟨0, _⟩ => rfl | ⟨1, _⟩ => rfl
    show absf y (reduces_S128x128_S128.lift (ix1 r) k) = _
    rw [e]; rfl
  show broadcastTo S128x128 _ broadcasts_S128x1_S128x128 (ix2 r l) * Ideal.ofBits .f32 0x3B124925#32 = _
  rw [h, over448]

/-- A column's greatest absolute value over 448, on every sublane. -/
theorem colV_apply (s : Fin 8) (l : Fin 128) : colV y (ix2 s l) = over448 (amax fun k => y (ix2 k l)) := by
  have h : broadcastTo S8x128 (shapeCast S1x128 (shapeCast S1x128
      (multiReduction .maximumf [0] S128 (absf y) 0xFF800000#32 reduces_S128x128_S128_2 (.inl rfl) rfl) shapeCasts_S128_S1x128)
      shapeCasts_S1x128_S1x128) broadcasts_S1x128_S8x128 (ix2 s l) = amax fun k => y (ix2 k l) := by
    rw [broadcastTo_apply _ broadcasts_S1x128_S8x128 (ix2 s l) (ix2 0 l) fun a => match a with | ⟨0, _⟩ => rfl | ⟨1, _⟩ => rfl,
      shapeCast_self, shapeCast_apply _ shapeCasts_S128_S1x128 (ix2 0 l) (ix1 l)
      (by rw [Shape.rowMajor_val_one, Shape.rowMajor_val_two]; show l.val = 0 * 128 + l.val; omega)]
    refine (Ideal.multiReduction_maximumf_single (absf y) 0xFF800000#32 reduces_S128x128_S128_2 (.inl rfl) rfl (ix1 l)).trans ?_
    refine Finset.fold_congr fun k _ => ?_
    have e : reduces_S128x128_S128_2.lift (ix1 l) k = ix2 k l := by
      funext a; match a with | ⟨0, _⟩ => rfl | ⟨1, _⟩ => rfl
    show absf y (reduces_S128x128_S128_2.lift (ix1 l) k) = _
    rw [e]; rfl
  show broadcastTo S8x128 _ broadcasts_S1x128_S8x128 (ix2 s l) * Ideal.ofBits .f32 0x3B124925#32 = _
  rw [h, over448]

/-- The vector search is the search at every index. -/
theorem scaleOf_eq {S : Shape} (v : FVec Ideal S .f32) (i : S.Idx) : scaleOf v i = Quant.scale (F := Ideal) (v i) := rfl
theorem invOf_eq {S : Shape} (v : FVec Ideal S .f32) (i : S.Idx) : invOf v i = Quant.inv (F := Ideal) (v i) := rfl

/-- The row codes of a group. -/
theorem rowCodes_apply (r l : Fin 128) : rowCodes y (ix2 r l) = codeVal (y (ix2 r l)) (amax fun k => y (ix2 r k)) := by
  show min (Ideal.ofBits .f32 0x43E00000#32) (max (Ideal.ofBits .f32 0xC3E00000#32) (y (ix2 r l) * invOf (rowV y) (ix2 r l))) = _
  rw [invOf_eq, rowV_apply, (scale_eq (amax_nonneg _)).2]
  rfl

/-- The row scales of a group. -/
theorem rowScale_apply (r : Fin 128) : rowScale y (ix2 r 0) = scaleVal (amax fun k => y (ix2 r k)) := by
  rw [rowScale, extractStridedSlice_apply ![0, 0] _ slices_S128x128_o0_0_S128x1 (ix2 r 0) (ix2 r 0)
    (fun a => match a with | ⟨0, _⟩ => by show r.val = 0 + r.val; omega | ⟨1, _⟩ => rfl),
    scaleOf_eq, rowV_apply, (scale_eq (amax_nonneg _)).1]

/-- The column codes of a group, transposed. -/
theorem colCodes_apply (l r : Fin 128) : colCodes y (ix2 l r) = codeVal (y (ix2 r l)) (amax fun k => y (ix2 k l)) := by
  have h : broadcastTo S128x128 (extractStridedSlice S1x128 ![0, 0] (invOf (colV y)) slices_S8x128_o0_0_S1x128)
      broadcasts_S1x128_S128x128 (ix2 r l) = invOf (colV y) (ix2 0 l) := by
    rw [broadcastTo_apply _ broadcasts_S1x128_S128x128 (ix2 r l) (ix2 0 l) fun a => match a with | ⟨0, _⟩ => rfl | ⟨1, _⟩ => rfl,
      extractStridedSlice_apply ![0, 0] _ slices_S8x128_o0_0_S1x128 (ix2 0 l) (ix2 0 l)
      (fun a => match a with | ⟨0, _⟩ => rfl | ⟨1, _⟩ => by show l.val = 0 + l.val; omega)]
  rw [colCodes, transpose_apply [1, 0] _ transposes_S128x128_p1_0_S128x128 (ix2 l r) (ix2 r l)
    (fun b => match b with | ⟨0, _⟩ => rfl | ⟨1, _⟩ => rfl)]
  show min (Ideal.ofBits .f32 0x43E00000#32) (max (Ideal.ofBits .f32 0xC3E00000#32) (y (ix2 r l) *
    broadcastTo S128x128 (extractStridedSlice S1x128 ![0, 0] (invOf (colV y)) slices_S8x128_o0_0_S1x128)
      broadcasts_S1x128_S128x128 (ix2 r l))) = _
  rw [h, invOf_eq, colV_apply, (scale_eq (amax_nonneg _)).2]
  rfl

/-- The column scales of a group. -/
theorem colScale_apply (l : Fin 128) : colScale y (ix2 0 l) = scaleVal (amax fun k => y (ix2 k l)) := by
  rw [colScale, extractStridedSlice_apply ![0, 0] _ slices_S8x128_o0_0_S1x128 (ix2 0 l) (ix2 0 l)
    (fun a => match a with | ⟨0, _⟩ => rfl | ⟨1, _⟩ => by show l.val = 0 + l.val; omega),
    scaleOf_eq, colV_apply, (scale_eq (amax_nonneg _)).1]

end Groups

end Cert.KernelIdeal.Block
-- ==== Proof.Outs.lean ====
module

public import proofs.«01_k».proof.Proof.Vocab
public import proofs.«01_k».proof.Proof.Spec
public import Idealize.ShloMosaic.Lib.Pipeline.ValueKit.Tiles

/-! What the body leaves in each output block, read at an index. -/

@[expose] public section

noncomputable section

namespace Cert.KernelIdeal.Block

open Idealize.ShloMosaic Idealize.SL.Sem Idealize.ShloMosaic.ValueIdx
open Cert.KernelIdeal Cert.KernelIdeal.Gen Cert.Spec

variable {F : FTy → Type} [FloatOps F] [Named F]
variable (x0 : Vec F S128x3584 .bf16) (x1 : Vec F S1x3584 .f32)

/-- Counting the groups backwards twice counts them forwards. -/
theorem last_last (j : Fin 28) : last (last j) = j := Fin.ext (by show 27 - (27 - j.val) = j.val; omega)

/-- The block of row codes at row `r` and lane `l` of group `j`. -/
theorem out2_apply (j : Fin 28) (r l : Fin 128) : out0_2 x0 x1 (ix2 r (col j l)) = rowCodes (yOf x0 x1 j) (ix2 r l) := by
  rw [out_rowCodes]
  refine View.canon_ofFn_unit_eq_of_forall (Val := Elt F) (S := S128x3584) (e := .fp8e4m3) (fun k => ![0, 128 * (last k).val]) S128x128.size (fun k => inb_x (last k))
    (fun k => rowCodes (yOf x0 x1 (last k))) (ix2 r (col j l)) _ ⟨last j, fun a => ?_⟩ fun k x hx => ?_
  · rw [last_last]
    match a with
    | ⟨0, _⟩ => show 0 ≤ r.val ∧ r.val < 0 + 128; omega
    | ⟨1, _⟩ => show 128 * j.val ≤ 128 * j.val + l.val ∧ 128 * j.val + l.val < 128 * j.val + 128; omega
  · have h0 : r.val = 0 + (x 0).val := hx 0
    have h1 : 128 * j.val + l.val = 128 * (last k).val + (x 1).val := hx 1
    have b : (x 1).val < 128 := (x 1).isLt
    have e : last k = j := Fin.ext (by omega)
    have ex : x = ix2 r l := by
      funext a; refine Fin.ext ?_
      match a with
      | ⟨0, _⟩ => show (x 0).val = r.val; omega
      | ⟨1, _⟩ => show (x 1).val = l.val; rw [e] at h1; omega
    rw [e, ex]

/-- The block of column codes at lane `l` of group `j` and row `r`. -/
theorem out4_apply (j : Fin 28) (l r : Fin 128) : out0_4 x0 x1 (ix2 (col j l) r) = colCodes (yOf x0 x1 j) (ix2 l r) := by
  rw [out_colCodes]
  refine View.canon_ofFn_unit_eq_of_forall (Val := Elt F) (S := S3584x128) (e := .fp8e4m3) (fun k => ![128 * (last k).val, 0]) S128x128.size (fun k => inb_c (last k))
    (fun k => colCodes (yOf x0 x1 (last k))) (ix2 (col j l) r) _ ⟨last j, fun a => ?_⟩ fun k x hx => ?_
  · rw [last_last]
    match a with
    | ⟨0, _⟩ => show 128 * j.val ≤ 128 * j.val + l.val ∧ 128 * j.val + l.val < 128 * j.val + 128; omega
    | ⟨1, _⟩ => show 0 ≤ r.val ∧ r.val < 0 + 128; omega
  · have h0 : 128 * j.val + l.val = 128 * (last k).val + (x 0).val := hx 0
    have h1 : r.val = 0 + (x 1).val := hx 1
    have b : (x 0).val < 128 := (x 0).isLt
    have e : last k = j := Fin.ext (by omega)
    have ex : x = ix2 l r := by
      funext a; refine Fin.ext ?_
      match a with
      | ⟨0, _⟩ => show (x 0).val = l.val; rw [e] at h0; omega
      | ⟨1, _⟩ => show (x 1).val = r.val; omega
    rw [e, ex]

/-- The block of row scales at group `j` and row `r`. -/
theorem out3_apply (j : Fin 28) (r : Fin 128) : out0_3 x0 x1 (ix2 j r) = rowScale (yOf x0 x1 j) (ix2 r 0) := by
  rw [out_rowScale, transpose_apply [1, 0] _ transposes_S128x28_p1_0_S28x128 (ix2 j r) (ix2 r j)
    (fun b => match b with | ⟨0, _⟩ => rfl | ⟨1, _⟩ => rfl)]
  exact concatenate_ofFn_unit_apply (t := S128x28) (s₁ := S128x1) 1 (fun j => rowScale (yOf x0 x1 j)) (cat_rows x0 x1) rfl rfl (ix2 r j) j rfl (ix2 r 0)
    fun b hb => match b with | ⟨0, _⟩ => rfl | ⟨1, _⟩ => absurd rfl hb

/-- The block of column scales at lane `l` of group `j`. -/
theorem out5_apply (j : Fin 28) (l : Fin 128) : out0_5 x0 x1 (ix3 0 0 (col j l)) = colScale (yOf x0 x1 j) (ix2 0 l) := by
  rw [out_colScale, shapeCast_apply _ shapeCasts_S1x3584_S1x1x3584 (ix3 0 0 (col j l)) (ix2 0 (col j l))
    (by rw [Shape.rowMajor_val_two, Shape.rowMajor_val_three]; show 0 * 3584 + (128 * j.val + l.val) = (0 * 1 + 0) * 3584 + (128 * j.val + l.val); omega)]
  exact concatenate_ofFn_apply (t := S1x3584) (s₁ := S1x128) 1 (fun j => colScale (yOf x0 x1 j)) (cat_cols x0 x1) rfl 128 rfl (ix2 0 (col j l)) j
    (by show (128 * j.val + l.val) / 128 = j.val; omega) (ix2 0 l) (by show l.val = (128 * j.val + l.val) % 128; omega)
    fun b hb => match b with | ⟨0, _⟩ => rfl | ⟨1, _⟩ => absurd rfl hb

/-- The block of reciprocal root mean squares at row `r`. -/
theorem out6_apply (r : Fin 128) : out0_6 x0 x1 (ix2 0 r) = rsig x0 (ix2 r 0) := by
  rw [out_rsig]
  exact transpose_apply [1, 0] _ transposes_S128x1_p1_0_S1x128 (ix2 0 r) (ix2 r 0)
    (fun b => match b with | ⟨0, _⟩ => rfl | ⟨1, _⟩ => rfl)

end Cert.KernelIdeal.Block
-- ==== Proof.Arrays.lean ====
module

public import proofs.«01_k».proof.Proof.Gen.KernelIdeal.Value
public import proofs.«01_k».proof.Proof.BlockIdeal
public import proofs.«01_k».proof.Proof.Outs

/-! The kernel's result arrays read at an index. -/

@[expose] public section

set_option maxRecDepth 65536

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Block Cert.Spec

variable (m : (ℓ : Loc nD τ sig) → Buf (Elt Ideal) ℓ) (c : Dev nD)

/-- The first argument as a matrix. -/
abbrev mat : FVec Ideal S49152x3584 .bf16 :=
  shapeCast S49152x3584 (m ((c : Thread nD τ).loc main_arg0) : FVec Ideal S6x8192x3584 .bf16) shapeCasts_S6x8192x3584_S49152x3584

abbrev X : Fin 49152 → Fin 3584 → EReal := fun R C => mat m c (ix2 R C)

/-- The second argument as a row. -/
abbrev G : Fin 3584 → EReal := fun C => (m ((c : Thread nD τ).loc main_arg1) : FVec Ideal S3584 .bf16) (ix1 C)

/-- The region finds the matrix in its first array. -/
theorem V_x : (V m c main_v0 : FVec Ideal S49152x3584 .bf16) = mat m c := by
  show StableHlo.after hostOps0 (fun b => m (c, b)) (Proc.devRef .tc main_v0) = _
  simp only [hostOps0]
  after_results_simp
  rfl

/-- The second argument, widened, as a matrix of one row. -/
abbrev wts : FVec Ideal S1x3584 .f32 := extf .f32 (shapeCast S1x3584 (m ((c : Thread nD τ).loc main_arg1) : FVec Ideal S3584 .bf16) shapeCasts_S3584_S1x3584 : FVec Ideal S1x3584 .bf16) bitsLt_bf16_f32

/-- The region finds the weights, widened, in its second array. -/
theorem V_g : (V m c main_v2 : FVec Ideal S1x3584 .f32) = wts m c := by
  show StableHlo.after hostOps0 (fun b => m (c, b)) (Proc.devRef .tc main_v2) = _
  simp only [hostOps0]
  after_results_simp
  rfl

/-- Where the windows' blocks lie. -/
theorem idx_facts : ∀ t : Fin cfg0.N, win0_0.index t ⟨0, by decide⟩ = t.val ∧ win0_0.index t ⟨1, by decide⟩ = 0
    ∧ win0_1.index t ⟨0, by decide⟩ = 0 ∧ win0_1.index t ⟨1, by decide⟩ = 0
    ∧ win0_2.index t ⟨1, by decide⟩ = 0 ∧ win0_3.index t ⟨0, by decide⟩ = 0 ∧ win0_4.index t ⟨0, by decide⟩ = 0
    ∧ win0_5.index t ⟨1, by decide⟩ = 0 ∧ win0_5.index t ⟨2, by decide⟩ = 0 ∧ win0_6.index t ⟨0, by decide⟩ = 0 :=
  (by decide +kernel : ∀ t : Fin grid0.N, win0_0.index t ⟨0, by decide⟩ = t.val ∧ win0_0.index t ⟨1, by decide⟩ = 0
    ∧ win0_1.index t ⟨0, by decide⟩ = 0 ∧ win0_1.index t ⟨1, by decide⟩ = 0
    ∧ win0_2.index t ⟨1, by decide⟩ = 0 ∧ win0_3.index t ⟨0, by decide⟩ = 0 ∧ win0_4.index t ⟨0, by decide⟩ = 0
    ∧ win0_5.index t ⟨1, by decide⟩ = 0 ∧ win0_5.index t ⟨2, by decide⟩ = 0 ∧ win0_6.index t ⟨0, by decide⟩ = 0)

/-- Every point writes its blocks back. -/
theorem flush_facts : ∀ t : Fin cfg0.N, win0_2.flush t = true ∧ win0_3.flush t = true ∧ win0_4.flush t = true
    ∧ win0_5.flush t = true ∧ win0_6.flush t = true :=
  (by decide +kernel : ∀ t : Fin grid0.N, win0_2.flush t = true ∧ win0_3.flush t = true ∧ win0_4.flush t = true
    ∧ win0_5.flush t = true ∧ win0_6.flush t = true)

/-- The grid has 384 points. -/
theorem N_eq : cfg0.N = 384 := N_0

/-- A row group as a grid point. -/
abbrev pt (t : Fin 384) : Fin cfg0.N := Fin.cast N_eq.symm t

/-- The block of the matrix at grid point `t`. -/
theorem blk_x (t : Fin 384) (r : Fin 128) (C : Fin 3584) :
    (iblk m c 0 (pt t) : Vec Ideal S128x3584 .bf16) (ix2 r C) = X m c (row t r) C := by
  have hi := idx_facts (pt t)
  unfold iblk
  rw [View.read_apply]
  show (V m c main_v0 : FVec Ideal S49152x3584 .bf16) _ = _
  rw [V_x]
  refine congrArg (mat m c) (funext fun a => Fin.ext ?_)
  match a with
  | ⟨0, _⟩ => show win0_0.index (pt t) ⟨0, by decide⟩ * 128 + 1 * r.val = 128 * t.val + r.val; rw [hi.1]; show t.val * 128 + 1 * r.val = _; omega
  | ⟨1, _⟩ => show win0_0.index (pt t) ⟨1, by decide⟩ * 3584 + 1 * C.val = C.val; rw [hi.2.1]; omega

/-- The block of the weights. -/
theorem blk_g (t : Fin 384) (C : Fin 3584) : (iblk m c 1 (pt t) : Vec Ideal S1x3584 .f32) (ix2 0 C) = G m c C := by
  have hi := idx_facts (pt t)
  unfold iblk
  rw [View.read_apply]
  show (V m c main_v2 : FVec Ideal S1x3584 .f32) _ = _
  rw [V_g]
  show shapeCast S1x3584 (m ((c : Thread nD τ).loc main_arg1) : FVec Ideal S3584 .bf16) shapeCasts_S3584_S1x3584 _ = _
  refine shapeCast_apply _ shapeCasts_S3584_S1x3584 _ (ix1 C) ?_
  rw [Shape.rowMajor_val_one, Shape.rowMajor_val_two]
  show C.val = (win0_1.index (pt t) ⟨0, by decide⟩ * 1 + 1 * 0) * 3584 + (win0_1.index (pt t) ⟨1, by decide⟩ * 3584 + 1 * C.val)
  rw [hi.2.2.1, hi.2.2.2.1]; omega

/-- The reciprocal root mean squares of the block's rows. -/
theorem blk_sig (t : Fin 384) (r : Fin 128) : rsig (iblk m c 0 (pt t)) (ix2 r 0) = sigOf (X m c (row t r)) := by
  rw [rsig_apply]
  exact congrArg sigOf (funext fun k => blk_x m c t r k)

/-- The normalised, weighted values of the block. -/
theorem blk_y (t : Fin 384) (j : Fin 28) (r l : Fin 128) :
    yOf (iblk m c 0 (pt t)) (iblk m c 1 (pt t)) j (ix2 r l) = norm (X m c) (G m c) (row t r) (col j l) := by
  rw [yOf_apply, blk_sig, blk_x, blk_g]; rfl

/-- No block is cut at the array's edge. -/
theorem cut2 (t : Fin cfg0.N) (v : Vec Ideal S128x3584 .fp8e4m3) (y : S128x3584.Idx) : (cfg0.win 2).cut (grid0.coords t) v y = v y := rfl
theorem cut3 (t : Fin cfg0.N) (v : Vec Ideal S28x128 .f32) (y : S28x128.Idx) : (cfg0.win 3).cut (grid0.coords t) v y = v y := rfl
theorem cut4 (t : Fin cfg0.N) (v : Vec Ideal S3584x128 .fp8e4m3) (y : S3584x128.Idx) : (cfg0.win 4).cut (grid0.coords t) v y = v y := rfl
theorem cut5 (t : Fin cfg0.N) (v : Vec Ideal S1x1x3584 .f32) (y : S1x1x3584.Idx) : (cfg0.win 5).cut (grid0.coords t) v y = v y := rfl
theorem cut6 (t : Fin cfg0.N) (v : Vec Ideal S1x128 .f32) (y : S1x128.Idx) : (cfg0.win 6).cut (grid0.coords t) v y = v y := rfl

/-- The array of row codes. -/
theorem arr2 (t : Fin 384) (r : Fin 128) (j : Fin 28) (l : Fin 128) :
    ((dats m 0 c).arrAt 2 cfg0.N : FVec Ideal S49152x3584 .fp8e4m3) (ix2 (row t r) (col j l)) =
      codeVal (norm (X m c) (G m c) (row t r) (col j l)) (amax fun k => norm (X m c) (G m c) (row t r) (col j k)) := by
  have hf := flush_facts (pt t)
  have hi := idx_facts (pt t)
  have e : (((cfg0.win 2).blk (pt t)).view.emb (ix2 r (col j l) : S128x3584.Idx) : S49152x3584.Idx) = ix2 (row t r) (col j l) := by
    funext a; refine Fin.ext ?_
    match a with
    | ⟨0, _⟩ => show win0_2.index (pt t) ⟨0, by decide⟩ * 128 + 1 * r.val = 128 * t.val + r.val; rw [idx_pt2]; show t.val * 128 + 1 * r.val = _; omega
    | ⟨1, _⟩ => show win0_2.index (pt t) ⟨1, by decide⟩ * 3584 + 1 * (128 * j.val + l.val) = 128 * j.val + l.val; rw [hi.2.2.2.2.1]; omega
  rw [← e]
  refine ((dats m 0 c).arrAt_emb_eq_flushed 2 disjoint2 (pt t) hf.1 (ix2 r (col j l) : S128x3584.Idx)).trans ?_
  rw [flushed2]
  refine (cast_eq _ _).trans ((cut2 (pt t) (out0_2 (iblk m c 0 (pt t)) (iblk m c 1 (pt t))) (ix2 r (col j l))).trans ?_)
  rw [out2_apply, rowCodes_apply, blk_y]
  exact congrArg _ (congrArg amax (funext fun k => blk_y m c t j r k))

/-- The array of row scales. -/
theorem arr3 (j : Fin 28) (t : Fin 384) (r : Fin 128) :
    ((dats m 0 c).arrAt 3 cfg0.N : FVec Ideal S28x49152 .f32) (ix2 j (row t r)) =
      scaleVal (amax fun k => norm (X m c) (G m c) (row t r) (col j k)) := by
  have hf := flush_facts (pt t)
  have hi := idx_facts (pt t)
  have e : (((cfg0.win 3).blk (pt t)).view.emb (ix2 j r : S28x128.Idx) : S28x49152.Idx) = ix2 j (row t r) := by
    funext a; refine Fin.ext ?_
    match a with
    | ⟨0, _⟩ => show win0_3.index (pt t) ⟨0, by decide⟩ * 28 + 1 * j.val = j.val; rw [hi.2.2.2.2.2.1]; omega
    | ⟨1, _⟩ => show win0_3.index (pt t) ⟨1, by decide⟩ * 128 + 1 * r.val = 128 * t.val + r.val; rw [idx_pt3]; show t.val * 128 + 1 * r.val = _; omega
  rw [← e]
  refine ((dats m 0 c).arrAt_emb_eq_flushed 3 disjoint3 (pt t) hf.2.1 (ix2 j r : S28x128.Idx)).trans ?_
  rw [flushed3]
  refine (cast_eq _ _).trans ((cut3 (pt t) (out0_3 (iblk m c 0 (pt t)) (iblk m c 1 (pt t))) (ix2 j r)).trans ?_)
  rw [out3_apply, rowScale_apply]
  exact congrArg scaleVal (congrArg amax (funext fun k => blk_y m c t j r k))

/-- The array of column codes. -/
theorem arr4 (j : Fin 28) (l : Fin 128) (t : Fin 384) (r : Fin 128) :
    ((dats m 0 c).arrAt 4 cfg0.N : FVec Ideal S3584x49152 .fp8e4m3) (ix2 (col j l) (row t r)) =
      codeVal (norm (X m c) (G m c) (row t r) (col j l)) (amax fun k => norm (X m c) (G m c) (row t k) (col j l)) := by
  have hf := flush_facts (pt t)
  have hi := idx_facts (pt t)
  have e : (((cfg0.win 4).blk (pt t)).view.emb (ix2 (col j l) r : S3584x128.Idx) : S3584x49152.Idx) = ix2 (col j l) (row t r) := by
    funext a; refine Fin.ext ?_
    match a with
    | ⟨0, _⟩ => show win0_4.index (pt t) ⟨0, by decide⟩ * 3584 + 1 * (128 * j.val + l.val) = 128 * j.val + l.val; rw [hi.2.2.2.2.2.2.1]; omega
    | ⟨1, _⟩ => show win0_4.index (pt t) ⟨1, by decide⟩ * 128 + 1 * r.val = 128 * t.val + r.val; rw [idx_pt4]; show t.val * 128 + 1 * r.val = _; omega
  rw [← e]
  refine ((dats m 0 c).arrAt_emb_eq_flushed 4 disjoint4 (pt t) hf.2.2.1 (ix2 (col j l) r : S3584x128.Idx)).trans ?_
  rw [flushed4]
  refine (cast_eq _ _).trans ((cut4 (pt t) (out0_4 (iblk m c 0 (pt t)) (iblk m c 1 (pt t))) (ix2 (col j l) r)).trans ?_)
  rw [out4_apply, colCodes_apply, blk_y]
  exact congrArg _ (congrArg amax (funext fun k => blk_y m c t j k l))

/-- The array of column scales. -/
theorem arr5 (t : Fin 384) (j : Fin 28) (l : Fin 128) :
    ((dats m 0 c).arrAt 5 cfg0.N : FVec Ideal S384x1x3584 .f32) (ix3 t 0 (col j l)) =
      scaleVal (amax fun k => norm (X m c) (G m c) (row t k) (col j l)) := by
  have hf := flush_facts (pt t)
  have hi := idx_facts (pt t)
  have e : (((cfg0.win 5).blk (pt t)).view.emb (ix3 0 0 (col j l) : S1x1x3584.Idx) : S384x1x3584.Idx) = ix3 t 0 (col j l) := by
    funext a; refine Fin.ext ?_
    match a with
    | ⟨0, _⟩ => show win0_5.index (pt t) ⟨0, by decide⟩ * 1 + 1 * 0 = t.val; rw [idx_pt5]; show t.val * 1 + 1 * 0 = _; omega
    | ⟨1, _⟩ => show win0_5.index (pt t) ⟨1, by decide⟩ * 1 + 1 * 0 = 0; rw [hi.2.2.2.2.2.2.2.1]
    | ⟨2, _⟩ => show win0_5.index (pt t) ⟨2, by decide⟩ * 3584 + 1 * (128 * j.val + l.val) = 128 * j.val + l.val; rw [hi.2.2.2.2.2.2.2.2.1]; omega
  rw [← e]
  refine ((dats m 0 c).arrAt_emb_eq_flushed 5 disjoint5 (pt t) hf.2.2.2.1 (ix3 0 0 (col j l) : S1x1x3584.Idx)).trans ?_
  rw [flushed5]
  refine (cast_eq _ _).trans ((cut5 (pt t) (out0_5 (iblk m c 0 (pt t)) (iblk m c 1 (pt t))) (ix3 0 0 (col j l))).trans ?_)
  rw [out5_apply, colScale_apply]
  exact congrArg scaleVal (congrArg amax (funext fun k => blk_y m c t j k l))

/-- The array of reciprocal root mean squares. -/
theorem arr6 (t : Fin 384) (r : Fin 128) :
    ((dats m 0 c).arrAt 6 cfg0.N : FVec Ideal S1x49152 .f32) (ix2 0 (row t r)) = sigOf (X m c (row t r)) := by
  have hf := flush_facts (pt t)
  have hi := idx_facts (pt t)
  have e : (((cfg0.win 6).blk (pt t)).view.emb (ix2 0 r : S1x128.Idx) : S1x49152.Idx) = ix2 0 (row t r) := by
    funext a; refine Fin.ext ?_
    match a with
    | ⟨0, _⟩ => show win0_6.index (pt t) ⟨0, by decide⟩ * 1 + 1 * 0 = 0; rw [hi.2.2.2.2.2.2.2.2.2]
    | ⟨1, _⟩ => show win0_6.index (pt t) ⟨1, by decide⟩ * 128 + 1 * r.val = 128 * t.val + r.val; rw [idx_pt6]; show t.val * 128 + 1 * r.val = _; omega
  rw [← e]
  refine ((dats m 0 c).arrAt_emb_eq_flushed 6 disjoint6 (pt t) hf.2.2.2.2 (ix2 0 r : S1x128.Idx)).trans ?_
  rw [flushed6]
  refine (cast_eq _ _).trans ((cut6 (pt t) (out0_6 (iblk m c 0 (pt t)) (iblk m c 1 (pt t))) (ix2 0 r)).trans ?_)
  rw [out6_apply, blk_sig]

end Cert.KernelIdeal.Arrays
-- ==== Proof.RefRead.lean ====
module

public import proofs.«01_k».proof.Proof.Gen.ReferenceIdeal.Read
public import proofs.«01_k».proof.Proof.Spec

/-! The reference's results read at an index. -/

@[expose] public section

noncomputable section

open scoped BigOperators

namespace Cert.ReferenceIdeal.At

open Idealize.ShloMosaic Idealize.ShloMosaic.ValueIdx Cert.ReferenceIdeal Cert.ReferenceIdeal.Gen Cert.ReferenceIdeal.Read Cert.Spec

variable (x0 : (⟨S6x8192x3584, .bf16⟩ : BufTy).Contents (Elt Ideal)) (x1 : (⟨S3584, .bf16⟩ : BufTy).Contents (Elt Ideal))

/-- The first argument as a matrix. -/
abbrev X : Fin 49152 → Fin 3584 → EReal := fun R C => val_main_v0 (F := Ideal) x0 (ix2 R C)

/-- The second argument as a row. -/
abbrev G : Fin 3584 → EReal := fun C => x1 (ix1 C)

/-- The reciprocal root mean squares. -/
theorem sig_apply (R : Fin 49152) : val_main_v8 (F := Ideal) x0 (ix1 R) = sigOf (X x0 R) := by
  have h : val_main_v3 (F := Ideal) x0 (ix1 R) = ∑ k : Fin 3584, X x0 R k * X x0 R k := by
    rw [val_main_v3_apply]
    show Ideal.ofBits .f32 0x00000000#32 + _ = _
    rw [Fields.ofBits_zero, zero_add]
    refine Finset.sum_congr rfl fun k _ => ?_
    have e : idx_main_v3 (ix1 R) k = ix2 R k := by funext a; match a with | ⟨0, _⟩ => rfl | ⟨1, _⟩ => rfl
    rw [e]; rfl
  show Ideal.rsqrt (Ideal.div (val_main_v3 (F := Ideal) x0 (ix1 R)) (Ideal.ofBits .f32 0x45600000#32) + Ideal.ofBits .f32 0x3727C5AC#32) = _
  rw [h, Fields.ofBits_3584, Ideal.div_coe (by norm_num)]
  rfl

/-- The normalised, weighted values. -/
theorem y_apply (R : Fin 49152) (C : Fin 3584) : val_main_v15 (F := Ideal) x0 x1 (ix2 R C) = norm (X x0) (G x1) R C := by
  have h1 : val_main_v10 (F := Ideal) x0 (ix2 R C) = sigOf (X x0 R) := by
    rw [val_main_v10_apply, val_main_v9_apply, ← sig_apply]
    exact congrArg (val_main_v8 (F := Ideal) x0) (funext fun a => match a with | ⟨0, _⟩ => rfl)
  have h2 : val_main_v14 (F := Ideal) x1 (ix2 R C) = G x1 C := by
    rw [val_main_v14_apply, val_main_v13_apply]
    exact congrArg x1 (funext fun a => match a with | ⟨0, _⟩ => rfl)
  show X x0 R C * val_main_v10 (F := Ideal) x0 (ix2 R C) * val_main_v14 (F := Ideal) x1 (ix2 R C) = _
  rw [h1, h2]; rfl

/-- The values in groups along a row. -/
theorem rowGroup_apply (R : Fin 49152) (j : Fin 28) (l : Fin 128) :
    val_main_v16 (F := Ideal) x0 x1 (ix3 R j l) = norm (X x0) (G x1) R (col j l) := by
  rw [← y_apply, val_main_v16]
  exact shapeCast_apply _ _ (ix3 R j l) (ix2 R (col j l)) (by
    rw [Shape.rowMajor_val_two, Shape.rowMajor_val_three]; show R.val * 3584 + (128 * j.val + l.val) = (R.val * 28 + j.val) * 128 + l.val; omega)

/-- The values in groups along a column. -/
theorem colGroup_apply (C : Fin 3584) (t : Fin 384) (r : Fin 128) :
    val_main_v61 (F := Ideal) x0 x1 (ix3 C t r) = norm (X x0) (G x1) (row t r) C := by
  rw [← y_apply, val_main_v61]
  refine (shapeCast_apply _ _ (ix3 C t r) (ix2 C (row t r)) (by
    rw [Shape.rowMajor_val_two, Shape.rowMajor_val_three]; show C.val * 49152 + (128 * t.val + r.val) = (C.val * 384 + t.val) * 128 + r.val; omega)).trans ?_
  rw [val_main_v60_apply]
  exact congrArg (val_main_v15 (F := Ideal) x0 x1) (funext fun a => match a with | ⟨0, _⟩ => rfl | ⟨1, _⟩ => rfl)

/-- The greatest absolute values along a row. -/
theorem rowMax_apply (R : Fin 49152) (j : Fin 28) :
    val_main_v18 (F := Ideal) x0 x1 (ix2 R j) = amax fun l => norm (X x0) (G x1) R (col j l) := by
  have h : S49152x28x128.Reduces [2] S49152x28 := by decide
  rw [val_main_v18, Host.reduce_eq_fold_single FloatOps.maximumf _ _ reducesTo_S49152x28x128_S49152x28_d2 h]
  refine Finset.fold_congr fun (l : Fin 128) _ => ?_
  have e : h.lift (ix2 R j) l = ix3 R j l := by
    funext a; match a with | ⟨0, _⟩ => rfl | ⟨1, _⟩ => rfl | ⟨2, _⟩ => rfl
  show val_main_v17 (F := Ideal) x0 x1 (h.lift (ix2 R j) l) = _
  rw [e]; show max (val_main_v16 (F := Ideal) x0 x1 (ix3 R j l)) (-(val_main_v16 (F := Ideal) x0 x1 (ix3 R j l))) = _
  rw [rowGroup_apply]

/-- The greatest absolute values along a column. -/
theorem colMax_apply (C : Fin 3584) (t : Fin 384) :
    val_main_v63 (F := Ideal) x0 x1 (ix2 C t) = amax fun r => norm (X x0) (G x1) (row t r) C := by
  have h : S3584x384x128.Reduces [2] S3584x384 := by decide
  rw [val_main_v63, Host.reduce_eq_fold_single FloatOps.maximumf _ _ reducesTo_S3584x384x128_S3584x384_d2 h]
  refine Finset.fold_congr fun (r : Fin 128) _ => ?_
  have e : h.lift (ix2 C t) r = ix3 C t r := by
    funext a; match a with | ⟨0, _⟩ => rfl | ⟨1, _⟩ => rfl | ⟨2, _⟩ => rfl
  show val_main_v62 (F := Ideal) x0 x1 (h.lift (ix2 C t) r) = _
  rw [e]; show max (val_main_v61 (F := Ideal) x0 x1 (ix3 C t r)) (-(val_main_v61 (F := Ideal) x0 x1 (ix3 C t r))) = _
  rw [colGroup_apply]

/-- The exponents along a row, of the greatest absolute values. -/
theorem rowExp_of {F : FTy → Type} [FloatOps F] (x0 : (⟨S6x8192x3584, .bf16⟩ : BufTy).Contents (Elt F))
    (x1 : (⟨S3584, .bf16⟩ : BufTy).Contents (Elt F)) (i : S49152x28.Idx) : val_main_v37 (F := F) x0 x1 i =
    Quant.refExp (F := F) (val_main_v18 (F := F) x0 x1 i) (FloatOps.mulf (val_main_v18 (F := F) x0 x1 i) (FloatOps.ofBits .f32 0x3B124925#32)) := by
  have h : val_main_v20 (F := F) x0 x1 i = FloatOps.mulf (val_main_v18 (F := F) x0 x1 i) (FloatOps.ofBits .f32 0x3B124925#32) := rfl
  rw [← h]
  rfl

/-- The scales along a row, of the exponents. -/
theorem rowPow_of {F : FTy → Type} [FloatOps F] (x0 : (⟨S6x8192x3584, .bf16⟩ : BufTy).Contents (Elt F))
    (x1 : (⟨S3584, .bf16⟩ : BufTy).Contents (Elt F)) (i : S49152x28.Idx) :
    val_main_v45 (F := F) x0 x1 i = Quant.refPow (F := F) (val_main_v37 (F := F) x0 x1 i) := rfl

/-- The reciprocal scales along a row, of the exponents. -/
theorem rowPowNeg_of {F : FTy → Type} [FloatOps F] (x0 : (⟨S6x8192x3584, .bf16⟩ : BufTy).Contents (Elt F))
    (x1 : (⟨S3584, .bf16⟩ : BufTy).Contents (Elt F)) (i : S49152x28.Idx) :
    val_main_v54 (F := F) x0 x1 i = Quant.refPow (F := F) (FloatOps.hostNegf (val_main_v37 (F := F) x0 x1 i)) := rfl

/-- The scales along a row, of the greatest absolute values. -/
theorem rowScale_of (i : S49152x28.Idx) : val_main_v45 (F := Ideal) x0 x1 i = scaleVal (val_main_v18 (F := Ideal) x0 x1 i) := by
  rw [rowPow_of, rowExp_of, scaleVal, over448, Ideal.mulf_def, Ideal.ofBits_def]

/-- The reciprocal scales along a row. -/
theorem rowInv_of (i : S49152x28.Idx) : val_main_v54 (F := Ideal) x0 x1 i = Quant.refPow (F := Ideal)
    (FloatOps.hostNegf (F := Ideal) (φ := .f32) (Quant.refExp (F := Ideal) (val_main_v18 (F := Ideal) x0 x1 i) (over448 (val_main_v18 (F := Ideal) x0 x1 i)))) := by
  rw [rowPowNeg_of, rowExp_of, over448, Ideal.mulf_def, Ideal.ofBits_def]

/-- The exponents along a column, of the greatest absolute values. -/
theorem colExp_of {F : FTy → Type} [FloatOps F] (x0 : (⟨S6x8192x3584, .bf16⟩ : BufTy).Contents (Elt F))
    (x1 : (⟨S3584, .bf16⟩ : BufTy).Contents (Elt F)) (i : S3584x384.Idx) : val_main_v82 (F := F) x0 x1 i =
    Quant.refExp (F := F) (val_main_v63 (F := F) x0 x1 i) (FloatOps.mulf (val_main_v63 (F := F) x0 x1 i) (FloatOps.ofBits .f32 0x3B124925#32)) := by
  have h : val_main_v65 (F := F) x0 x1 i = FloatOps.mulf (val_main_v63 (F := F) x0 x1 i) (FloatOps.ofBits .f32 0x3B124925#32) := rfl
  rw [← h]
  rfl

/-- The scales along a column, of the exponents. -/
theorem colPow_of {F : FTy → Type} [FloatOps F] (x0 : (⟨S6x8192x3584, .bf16⟩ : BufTy).Contents (Elt F))
    (x1 : (⟨S3584, .bf16⟩ : BufTy).Contents (Elt F)) (i : S3584x384.Idx) :
    val_main_v90 (F := F) x0 x1 i = Quant.refPow (F := F) (val_main_v82 (F := F) x0 x1 i) := rfl

/-- The reciprocal scales along a column, of the exponents. -/
theorem colPowNeg_of {F : FTy → Type} [FloatOps F] (x0 : (⟨S6x8192x3584, .bf16⟩ : BufTy).Contents (Elt F))
    (x1 : (⟨S3584, .bf16⟩ : BufTy).Contents (Elt F)) (i : S3584x384.Idx) :
    val_main_v99 (F := F) x0 x1 i = Quant.refPow (F := F) (FloatOps.hostNegf (val_main_v82 (F := F) x0 x1 i)) := rfl

/-- The scales along a column, of the greatest absolute values. -/
theorem colScale_of (i : S3584x384.Idx) : val_main_v90 (F := Ideal) x0 x1 i = scaleVal (val_main_v63 (F := Ideal) x0 x1 i) := by
  rw [colPow_of, colExp_of, scaleVal, over448, Ideal.mulf_def, Ideal.ofBits_def]

/-- The reciprocal scales along a column. -/
theorem colInv_of (i : S3584x384.Idx) : val_main_v99 (F := Ideal) x0 x1 i = Quant.refPow (F := Ideal)
    (FloatOps.hostNegf (F := Ideal) (φ := .f32) (Quant.refExp (F := Ideal) (val_main_v63 (F := Ideal) x0 x1 i) (over448 (val_main_v63 (F := Ideal) x0 x1 i)))) := by
  rw [colPowNeg_of, colExp_of, over448, Ideal.mulf_def, Ideal.ofBits_def]

/-- The row codes. -/
theorem rowCode (R : Fin 49152) (j : Fin 28) (l : Fin 128) : val_main_v105 (F := Ideal) x0 x1 (ix2 R (col j l)) =
    codeVal (norm (X x0) (G x1) R (col j l)) (amax fun k => norm (X x0) (G x1) R (col j k)) := by
  have h : val_main_v56 (F := Ideal) x0 x1 (ix3 R j l) = val_main_v54 (F := Ideal) x0 x1 (ix2 R j) := by
    rw [val_main_v56_apply, val_main_v55_apply]
    exact congrArg (val_main_v54 (F := Ideal) x0 x1) (funext fun a => match a with | ⟨0, _⟩ => rfl | ⟨1, _⟩ => rfl)
  show val_main_v59 (F := Ideal) x0 x1 (ix2 R (col j l)) = _
  rw [val_main_v59]
  refine (shapeCast_apply _ _ (ix2 R (col j l)) (ix3 R j l) (by
    rw [Shape.rowMajor_val_two, Shape.rowMajor_val_three]; show (R.val * 28 + j.val) * 128 + l.val = R.val * 3584 + (128 * j.val + l.val); omega)).trans ?_
  show min (Ideal.ofBits .f32 0x43E00000#32) (max (Ideal.ofBits .f32 0xC3E00000#32)
    (val_main_v16 (F := Ideal) x0 x1 (ix3 R j l) * val_main_v56 (F := Ideal) x0 x1 (ix3 R j l))) = _
  rw [h, rowInv_of, rowGroup_apply, rowMax_apply]; rfl

/-- The column codes. -/
theorem colCode (C : Fin 3584) (t : Fin 384) (r : Fin 128) : val_main_v106 (F := Ideal) x0 x1 (ix2 C (row t r)) =
    codeVal (norm (X x0) (G x1) (row t r) C) (amax fun k => norm (X x0) (G x1) (row t k) C) := by
  have h : val_main_v101 (F := Ideal) x0 x1 (ix3 C t r) = val_main_v99 (F := Ideal) x0 x1 (ix2 C t) := by
    rw [val_main_v101_apply, val_main_v100_apply]
    exact congrArg (val_main_v99 (F := Ideal) x0 x1) (funext fun a => match a with | ⟨0, _⟩ => rfl | ⟨1, _⟩ => rfl)
  show val_main_v104 (F := Ideal) x0 x1 (ix2 C (row t r)) = _
  rw [val_main_v104]
  refine (shapeCast_apply _ _ (ix2 C (row t r)) (ix3 C t r) (by
    rw [Shape.rowMajor_val_two, Shape.rowMajor_val_three]; show (C.val * 384 + t.val) * 128 + r.val = C.val * 49152 + (128 * t.val + r.val); omega)).trans ?_
  show min (Ideal.ofBits .f32 0x43E00000#32) (max (Ideal.ofBits .f32 0xC3E00000#32)
    (val_main_v61 (F := Ideal) x0 x1 (ix3 C t r) * val_main_v101 (F := Ideal) x0 x1 (ix3 C t r))) = _
  rw [h, colInv_of, colGroup_apply, colMax_apply]; rfl

/-- The row scales. -/
theorem rowScale (j : Fin 28) (R : Fin 49152) : val_main_v107 (F := Ideal) x0 x1 (ix2 j R) =
    scaleVal (amax fun k => norm (X x0) (G x1) R (col j k)) := by
  rw [val_main_v107_apply, ← rowMax_apply, ← rowScale_of]
  exact congrArg (val_main_v45 (F := Ideal) x0 x1) (funext fun a => match a with | ⟨0, _⟩ => rfl | ⟨1, _⟩ => rfl)

/-- The column scales. -/
theorem colScale (t : Fin 384) (C : Fin 3584) : val_main_v109 (F := Ideal) x0 x1 (ix3 t 0 C) =
    scaleVal (amax fun k => norm (X x0) (G x1) (row t k) C) := by
  rw [val_main_v109]
  refine (shapeCast_apply _ _ (ix3 t 0 C) (ix2 t C) (by
    rw [Shape.rowMajor_val_two, Shape.rowMajor_val_three]; show t.val * 3584 + C.val = (t.val * 1 + 0) * 3584 + C.val; omega)).trans ?_
  rw [val_main_v108_apply, ← colMax_apply, ← colScale_of]
  exact congrArg (val_main_v90 (F := Ideal) x0 x1) (funext fun a => match a with | ⟨0, _⟩ => rfl | ⟨1, _⟩ => rfl)

/-- The reciprocal root mean squares, as one row. -/
theorem sig (R : Fin 49152) : val_main_v110 (F := Ideal) x0 (ix2 0 R) = sigOf (X x0 R) := by
  rw [← sig_apply, val_main_v110]
  exact shapeCast_apply _ _ (ix2 0 R) (ix1 R) (by
    rw [Shape.rowMajor_val_one, Shape.rowMajor_val_two]; show R.val = 0 * 49152 + R.val; omega)

end Cert.ReferenceIdeal.At
-- ==== Proof.Results.lean ====
module

public import proofs.«01_k».proof.Proof.Arrays
public import proofs.«01_k».proof.Proof.RefRead

/-! The kernel's result arrays are the reference's. -/

@[expose] public section

noncomputable section

namespace Cert.Results

open Idealize.ShloMosaic Idealize.ShloMosaic.TcCoe Idealize.SL.Sem Idealize.ShloMosaic.ValueIdx
open Cert.Spec Cert.ReferenceIdeal.Read
open Cert.KernelIdeal (nD τ sig main_arg0 main_arg1 S6x8192x3584 S3584 S49152x3584 S28x49152 S3584x49152 S384x1x3584 S1x49152)
open Cert.KernelIdeal.Gen (dats)
open Cert.KernelIdeal (cfg0)

/-- Every column lies in a group. -/
theorem exists_col (C : Fin 3584) : ∃ j l, C = col j l :=
  ⟨⟨C.val / 128, by omega⟩, ⟨C.val % 128, by omega⟩, Fin.ext (by show C.val = 128 * (C.val / 128) + C.val % 128; omega)⟩

/-- Every row lies in a group. -/
theorem exists_row (R : Fin 49152) : ∃ t r, R = row t r :=
  ⟨⟨R.val / 128, by omega⟩, ⟨R.val % 128, by omega⟩, Fin.ext (by show R.val = 128 * (R.val / 128) + R.val % 128; omega)⟩

variable (m : (ℓ : Loc nD τ sig) → Buf (Elt Ideal) ℓ) (c : Dev nD)

/-- The first argument. -/
abbrev a0 : FVec Ideal S6x8192x3584 .bf16 := m ((c : Thread nD τ).loc main_arg0)

/-- The second argument. -/
abbrev a1 : FVec Ideal S3584 .bf16 := m ((c : Thread nD τ).loc main_arg1)

/-- Both programs see the same matrix. -/
theorem X_eq : Cert.KernelIdeal.Arrays.X m c = Cert.ReferenceIdeal.At.X (a0 m c) := rfl

/-- Both programs see the same weights. -/
theorem G_eq : Cert.KernelIdeal.Arrays.G m c = Cert.ReferenceIdeal.At.G (a1 m c) := rfl

/-- The row codes agree. -/
theorem rowCodes_eq : ((dats m 0 c).arrAt 2 cfg0.N : FVec Ideal S49152x3584 .fp8e4m3) = val_main_v105 (F := Ideal) (a0 m c) (a1 m c) := by
  funext i
  obtain ⟨R, C, rfl⟩ : ∃ R C, i = ix2 R C := ⟨i 0, i 1, eq_ix2 i⟩
  obtain ⟨t, r, rfl⟩ := exists_row R
  obtain ⟨j, l, rfl⟩ := exists_col C
  rw [Cert.KernelIdeal.Arrays.arr2, X_eq, G_eq]
  exact (Cert.ReferenceIdeal.At.rowCode _ _ _ _ _).symm

/-- The row scales agree. -/
theorem rowScales_eq : ((dats m 0 c).arrAt 3 cfg0.N : FVec Ideal S28x49152 .f32) = val_main_v107 (F := Ideal) (a0 m c) (a1 m c) := by
  funext i
  obtain ⟨j, R, rfl⟩ : ∃ j R, i = ix2 j R := ⟨i 0, i 1, eq_ix2 i⟩
  obtain ⟨t, r, rfl⟩ := exists_row R
  rw [Cert.KernelIdeal.Arrays.arr3, X_eq, G_eq]
  exact (Cert.ReferenceIdeal.At.rowScale _ _ _ _).symm

/-- The column codes agree. -/
theorem colCodes_eq : ((dats m 0 c).arrAt 4 cfg0.N : FVec Ideal S3584x49152 .fp8e4m3) = val_main_v106 (F := Ideal) (a0 m c) (a1 m c) := by
  funext i
  obtain ⟨C, R, rfl⟩ : ∃ C R, i = ix2 C R := ⟨i 0, i 1, eq_ix2 i⟩
  obtain ⟨t, r, rfl⟩ := exists_row R
  obtain ⟨j, l, rfl⟩ := exists_col C
  rw [Cert.KernelIdeal.Arrays.arr4, X_eq, G_eq]
  exact (Cert.ReferenceIdeal.At.colCode _ _ _ _ _).symm

/-- The column scales agree. -/
theorem colScales_eq : ((dats m 0 c).arrAt 5 cfg0.N : FVec Ideal S384x1x3584 .f32) = val_main_v109 (F := Ideal) (a0 m c) (a1 m c) := by
  funext i
  obtain ⟨t, C, rfl⟩ : ∃ t C, i = ix3 t 0 C := ⟨i 0, i 2, by
    funext a
    match a with
    | ⟨0, _⟩ => rfl
    | ⟨1, _⟩ => exact Fin.ext (by have : (i 1).val < 1 := (i 1).isLt; show (i 1).val = 0; omega)
    | ⟨2, _⟩ => rfl⟩
  obtain ⟨j, l, rfl⟩ := exists_col C
  rw [Cert.KernelIdeal.Arrays.arr5, X_eq, G_eq]
  exact (Cert.ReferenceIdeal.At.colScale _ _ _ _).symm

/-- The reciprocal root mean squares agree. -/
theorem sig_eq : ((dats m 0 c).arrAt 6 cfg0.N : FVec Ideal S1x49152 .f32) = val_main_v110 (F := Ideal) (a0 m c) := by
  funext i
  obtain ⟨R, rfl⟩ : ∃ R, i = ix2 0 R := ⟨i 1, by
    funext a
    match a with
    | ⟨0, _⟩ => exact Fin.ext (by have : (i 0).val < 1 := (i 0).isLt; show (i 0).val = 0; omega)
    | ⟨1, _⟩ => rfl⟩
  obtain ⟨t, r, rfl⟩ := exists_row R
  rw [Cert.KernelIdeal.Arrays.arr6, X_eq]
  exact (Cert.ReferenceIdeal.At.sig _ _).symm

end Cert.Results
-- ==== Proof.lean ====
module

public import proofs.«01_k».proof.Defs
public import proofs.«01_k».proof.Proof.Gen.Kernel.Frame
public import proofs.«01_k».proof.Proof.Results
public import Idealize.ShloMosaic.Lib.Quiescent

/-! The certificate: both programs run and leave their arguments, the idealized kernel is the kernel with one constant named, and over
    the extended reals its five results are the reference's. -/

@[expose] public section

noncomputable section

open Idealize.ShloMosaic Idealize.ShloMosaic.TcCoe Idealize.SL.Sem

namespace Cert.Proof

/-- The kernel runs, leaves its arguments and ends with every semaphore at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the reference. -/
theorem frame_referenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The one constant that is named has the value 1/3584 in the idealized kernel's table. -/
theorem preserves : Cert.preserves_Kernel_KernelIdeal :=
  IdealRules.named_const.statement Cert.KernelIdeal.κ "inv_d" .f32 0x39924925#32 ((1 / 3584 : ℝ) : EReal) rfl

/-- Over the extended reals the five results of the kernel are the reference's. -/
theorem algebraic : Cert.algebraic_KernelIdeal_ReferenceIdeal := by
  intro m ρ m' ρ' _ hagree
  refine ⟨_, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  have e0 := (hagree c).1
  have e1 := (hagree c).2
  obtain ⟨h0, h1, h2, h3, h4, h5⟩ := h c
  refine ⟨(h0.trans (Cert.ReferenceIdeal.Read.val_main_v105_eq _)).trans ?_, (h1.trans (Cert.ReferenceIdeal.Read.val_main_v107_eq _)).trans ?_,
    (h2.trans (Cert.ReferenceIdeal.Read.val_main_v106_eq _)).trans ?_, (h3.trans (Cert.ReferenceIdeal.Read.val_main_v109_eq _)).trans ?_,
    (h4.trans (Cert.ReferenceIdeal.Read.val_main_v110_eq _)).trans ?_, h5⟩
  · rw [StableHlo.launchContents_devRef, StableHlo.launchContents_devRef, e0, e1]; exact (Cert.Results.rowCodes_eq m c).symm
  · rw [StableHlo.launchContents_devRef, StableHlo.launchContents_devRef, e0, e1]; exact (Cert.Results.rowScales_eq m c).symm
  · rw [StableHlo.launchContents_devRef, StableHlo.launchContents_devRef, e0, e1]; exact (Cert.Results.colCodes_eq m c).symm
  · rw [StableHlo.launchContents_devRef, StableHlo.launchContents_devRef, e0, e1]; exact (Cert.Results.colScales_eq m c).symm
  · rw [StableHlo.launchContents_devRef, e0]; exact (Cert.Results.sig_eq m c).symm

/-- The certificate's claim. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
